-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![256, 512]⟩ ⟨2, ![256, 4096]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![512, 256]⟩ ⟨2, ![4096, 256]⟩ 0 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![256, 512]⟩ ⟨2, ![256, 4096]⟩ 1 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![512, 256]⟩ ⟨2, ![4096, 256]⟩ 0 8 c (m' (((0 : Dev Cert.ReferenceIdeal.nD).tc : Thread Cert.ReferenceIdeal.nD Cert.ReferenceIdeal.τ).loc Cert.ReferenceIdeal.main_arg4))
      ∧ m ((c.tc : Thread Cert.KernelIdeal.nD Cert.KernelIdeal.τ).loc Cert.KernelIdeal.main_arg5) = Layout.block ⟨2, ![256, 512]⟩ ⟨2, ![256, 4096]⟩ 1 8 c (m' (((0 : Dev Cert.ReferenceIdeal.nD).tc : Thread Cert.ReferenceIdeal.nD Cert.ReferenceIdeal.τ).loc Cert.ReferenceIdeal.main_arg5))
      ∧ m ((c.tc : Thread Cert.KernelIdeal.nD Cert.KernelIdeal.τ).loc Cert.KernelIdeal.main_arg6) = Layout.block ⟨2, ![512, 256]⟩ ⟨2, ![4096, 256]⟩ 0 8 c (m' (((0 : Dev Cert.ReferenceIdeal.nD).tc : Thread Cert.ReferenceIdeal.nD Cert.ReferenceIdeal.τ).loc Cert.ReferenceIdeal.main_arg6))) →
    ∃ (v0 : Buf (Elt Ideal) (((0 : Dev Cert.ReferenceIdeal.nD).tc : Thread Cert.ReferenceIdeal.nD Cert.ReferenceIdeal.τ).loc Cert.ReferenceIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v11) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x256 : Shape := ⟨2, ![256, 256]⟩
abbrev S256x512 : Shape := ⟨2, ![256, 512]⟩
abbrev S512x256 : Shape := ⟨2, ![512, 256]⟩
abbrev S27x88x256 : Shape := ⟨3, ![27, 88, 256]⟩
abbrev S27 : Shape := ⟨1, ![27]⟩
abbrev S_ : Shape := ⟨0, ![]⟩
abbrev S88x256 : Shape := ⟨2, ![88, 256]⟩
abbrev S88x512 : Shape := ⟨2, ![88, 512]⟩
abbrev S80x256 : Shape := ⟨2, ![80, 256]⟩
abbrev S80x512 : Shape := ⟨2, ![80, 512]⟩
abbrev S1x88x256 : Shape := ⟨3, ![1, 88, 256]⟩
abbrev S1 : Shape := ⟨1, ![1]⟩
abbrev S1x80x256 : Shape := ⟨3, ![1, 80, 256]⟩

abbrev nBuf : Space → Nat
  | .hbm => 8
  | .vmem => 11
  | .smem => 0
  | _ => 0

abbrev bufTy : (tb : Table) → Fin (tcTables nBuf tb) → BufTy
  | .hbm, ⟨0, _⟩ => ⟨S256x256, .f32⟩
  | .hbm, ⟨1, _⟩ => ⟨S256x512, .f32⟩
  | .hbm, ⟨2, _⟩ => ⟨S512x256, .f32⟩
  | .hbm, ⟨3, _⟩ => ⟨S256x512, .f32⟩
  | .hbm, ⟨4, _⟩ => ⟨S512x256, .f32⟩
  | .hbm, ⟨5, _⟩ => ⟨S256x512, .f32⟩
  | .hbm, ⟨6, _⟩ => ⟨S512x256, .f32⟩
  | .hbm, ⟨7, _⟩ => ⟨S256x256, .f32⟩
  | .local _ .vmem, ⟨0, _⟩ => ⟨S256x256, .f32⟩
  | .local _ .vmem, ⟨1, _⟩ => ⟨S256x512, .f32⟩
  | .local _ .vmem, ⟨2, _⟩ => ⟨S512x256, .f32⟩
  | .local _ .vmem, ⟨3, _⟩ => ⟨S256x512, .f32⟩
  | .local _ .vmem, ⟨4, _⟩ => ⟨S512x256, .f32⟩
  | .local _ .vmem, ⟨5, _⟩ => ⟨S256x512, .f32⟩
  | .local _ .vmem, ⟨6, _⟩ => ⟨S512x256, .f32⟩
  | .local _ .vmem, ⟨7, _⟩ => ⟨S256x256, .f32⟩
  | .local _ .vmem, ⟨8, _⟩ => ⟨S256x256, .f32⟩
  | .local _ .vmem, ⟨9, _⟩ => ⟨S27x88x256, .bf16⟩
  | .local _ .vmem, ⟨10, _⟩ => ⟨S27x88x256, .bf16⟩
  | _, _ => ⟨S256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 1 → Bool
  | ⟨0, _⟩ => false
  | _ => false

abbrev dmaSemScoped : Fin 62 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | _ => false

abbrev sig : RefSig :=
  (ofTc nBuf bufTy 1 62 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.xori v2 c1_i32_0
  let c1_i32_2 : BitVec 32 := 1#32
  let v5 : BitVec 32 := Scalar.muli v4 c1_i32_2
  let v6 : BitVec 32 := Scalar.addi c0_i32 v5
  v6.toNat
def k0_dev2 (d0 : Dev nD) : Nat :=
  let c0_i32_5 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v7 : BitVec 32 := Scalar.xori v2 c3_i32
  let c1_i32_4 : BitVec 32 := 1#32
  let v8 : BitVec 32 := Scalar.muli v7 c1_i32_4
  let v9 : BitVec 32 := Scalar.addi c0_i32_5 v8
  v9.toNat
def k0_dev3 (d0 : Dev nD) : Nat :=
  let c0_i32_8 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v10 : BitVec 32 := Scalar.xori v2 c4_i32
  let c1_i32_7 : BitVec 32 := 1#32
  let v11 : BitVec 32 := Scalar.muli v10 c1_i32_7
  let v12 : BitVec 32 := Scalar.addi c0_i32_8 v11
  v12.toNat
def k0_dev4 (d0 : Dev nD) : Nat :=
  let c0_i32_54 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_43 : BitVec 32 := 1#32
  let v54 : BitVec 32 := Scalar.xori v2 c1_i32_43
  let c1_i32_53 : BitVec 32 := 1#32
  let v60 : BitVec 32 := Scalar.muli v54 c1_i32_53
  let v61 : BitVec 32 := Scalar.addi c0_i32_54 v60
  v61.toNat
def k0_dev5 (d0 : Dev nD) : Nat :=
  let c0_i32_69 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_59 : BitVec 32 := 3#32
  let v70 : BitVec 32 := Scalar.xori v2 c3_i32_59
  let c1_i32_68 : BitVec 32 := 1#32
  let v76 : BitVec 32 := Scalar.muli v70 c1_i32_68
  let v77 : BitVec 32 := Scalar.addi c0_i32_69 v76
  v77.toNat
def k0_dev6 (d0 : Dev nD) : Nat :=
  let c0_i32_83 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_74 : BitVec 32 := 4#32
  let v86 : BitVec 32 := Scalar.xori v2 c4_i32_74
  let c1_i32_82 : BitVec 32 := 1#32
  let v92 : BitVec 32 := Scalar.muli v86 c1_i32_82
  let v93 : BitVec 32 := Scalar.addi c0_i32_83 v92
  v93.toNat
def k0_dev7 (d0 : Dev nD) : Nat :=
  let c0_i32_124 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_114 : BitVec 32 := 3#32
  let v124 : BitVec 32 := Scalar.xori v2 c3_i32_114
  let c1_i32_123 : BitVec 32 := 1#32
  let v130 : BitVec 32 := Scalar.muli v124 c1_i32_123
  let v131 : BitVec 32 := Scalar.addi c0_i32_124 v130
  v131.toNat
def k0_dev8 (d0 : Dev nD) : Nat :=
  let c0_i32_165 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_155 : BitVec 32 := 4#32
  let v162 : BitVec 32 := Scalar.xori v2 c4_i32_155
  let c1_i32_164 : BitVec 32 := 1#32
  let v168 : BitVec 32 := Scalar.muli v162 c1_i32_164
  let v169 : BitVec 32 := Scalar.addi c0_i32_165 v168
  v169.toNat
def k0_dev9 (d0 : Dev nD) : Nat :=
  let c0_i32_205 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_196 : BitVec 32 := 1#32
  let v200 : BitVec 32 := Scalar.xori v2 c1_i32_196
  let c1_i32_204 : BitVec 32 := 1#32
  let v206 : BitVec 32 := Scalar.muli v200 c1_i32_204
  let v207 : BitVec 32 := Scalar.addi c0_i32_205 v206
  v207.toNat
def k0_dev10 (d0 : Dev nD) : Nat :=
  let c0_i32_245 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_236 : BitVec 32 := 4#32
  let v238 : BitVec 32 := Scalar.xori v2 c4_i32_236
  let c1_i32_244 : BitVec 32 := 1#32
  let v244 : BitVec 32 := Scalar.muli v238 c1_i32_244
  let v245 : BitVec 32 := Scalar.addi c0_i32_245 v244
  v245.toNat
def k0_dev11 (d0 : Dev nD) : Nat :=
  let c0_i32_285 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_276 : BitVec 32 := 1#32
  let v276 : BitVec 32 := Scalar.xori v2 c1_i32_276
  let c1_i32_284 : BitVec 32 := 1#32
  let v282 : BitVec 32 := Scalar.muli v276 c1_i32_284
  let v283 : BitVec 32 := Scalar.addi c0_i32_285 v282
  v283.toNat
def k0_dev12 (d0 : Dev nD) : Nat :=
  let c0_i32_326 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_316 : BitVec 32 := 3#32
  let v314 : BitVec 32 := Scalar.xori v2 c3_i32_316
  let c1_i32_325 : BitVec 32 := 1#32
  let v320 : BitVec 32 := Scalar.muli v314 c1_i32_325
  let v321 : BitVec 32 := Scalar.addi c0_i32_326 v320
  v321.toNat
def k0_dev13 (d0 : Dev nD) : Nat :=
  let c0_i32_377 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_368 : BitVec 32 := 1#32
  let v364 : BitVec 32 := Scalar.xori v2 c1_i32_368
  let c1_i32_376 : BitVec 32 := 1#32
  let v370 : BitVec 32 := Scalar.muli v364 c1_i32_376
  let v371 : BitVec 32 := Scalar.addi c0_i32_377 v370
  v371.toNat
def k0_dev14 (d0 : Dev nD) : Nat :=
  let c0_i32_428 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_419 : BitVec 32 := 3#32
  let v414 : BitVec 32 := Scalar.xori v2 c3_i32_419
  let c1_i32_427 : BitVec 32 := 1#32
  let v420 : BitVec 32 := Scalar.muli v414 c1_i32_427
  let v421 : BitVec 32 := Scalar.addi c0_i32_428 v420
  v421.toNat
def k0_dev15 (d0 : Dev nD) : Nat :=
  let c0_i32_479 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_470 : BitVec 32 := 4#32
  let v464 : BitVec 32 := Scalar.xori v2 c4_i32_470
  let c1_i32_478 : BitVec 32 := 1#32
  let v470 : BitVec 32 := Scalar.muli v464 c1_i32_478
  let v471 : BitVec 32 := Scalar.addi c0_i32_479 v470
  v471.toNat
def k0_dev16 (d0 : Dev nD) : Nat :=
  let c0_i32_519 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_510 : BitVec 32 := 3#32
  let v502 : BitVec 32 := Scalar.xori v2 c3_i32_510
  let c1_i32_518 : BitVec 32 := 1#32
  let v508 : BitVec 32 := Scalar.muli v502 c1_i32_518
  let v509 : BitVec 32 := Scalar.addi c0_i32_519 v508
  v509.toNat
def k0_dev17 (d0 : Dev nD) : Nat :=
  let c0_i32_559 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_550 : BitVec 32 := 4#32
  let v540 : BitVec 32 := Scalar.xori v2 c4_i32_550
  let c1_i32_558 : BitVec 32 := 1#32
  let v546 : BitVec 32 := Scalar.muli v540 c1_i32_558
  let v547 : BitVec 32 := Scalar.addi c0_i32_559 v546
  v547.toNat
def k0_dev18 (d0 : Dev nD) : Nat :=
  let c0_i32_599 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_590 : BitVec 32 := 1#32
  let v578 : BitVec 32 := Scalar.xori v2 c1_i32_590
  let c1_i32_598 : BitVec 32 := 1#32
  let v584 : BitVec 32 := Scalar.muli v578 c1_i32_598
  let v585 : BitVec 32 := Scalar.addi c0_i32_599 v584
  v585.toNat
def k0_dev19 (d0 : Dev nD) : Nat :=
  let c0_i32_639 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_630 : BitVec 32 := 4#32
  let v616 : BitVec 32 := Scalar.xori v2 c4_i32_630
  let c1_i32_638 : BitVec 32 := 1#32
  let v622 : BitVec 32 := Scalar.muli v616 c1_i32_638
  let v623 : BitVec 32 := Scalar.addi c0_i32_639 v622
  v623.toNat
def k0_dev20 (d0 : Dev nD) : Nat :=
  let c0_i32_679 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_670 : BitVec 32 := 1#32
  let v654 : BitVec 32 := Scalar.xori v2 c1_i32_670
  let c1_i32_678 : BitVec 32 := 1#32
  let v660 : BitVec 32 := Scalar.muli v654 c1_i32_678
  let v661 : BitVec 32 := Scalar.addi c0_i32_679 v660
  v661.toNat
def k0_dev21 (d0 : Dev nD) : Nat :=
  let c0_i32_719 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_710 : BitVec 32 := 3#32
  let v692 : BitVec 32 := Scalar.xori v2 c3_i32_710
  let c1_i32_718 : BitVec 32 := 1#32
  let v698 : BitVec 32 := Scalar.muli v692 c1_i32_718
  let v699 : BitVec 32 := Scalar.addi c0_i32_719 v698
  v699.toNat
def k0_dev22 (d0 : Dev nD) : Nat :=
  let c0_i32_770 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_761 : BitVec 32 := 1#32
  let v742 : BitVec 32 := Scalar.xori v2 c1_i32_761
  let c1_i32_769 : BitVec 32 := 1#32
  let v748 : BitVec 32 := Scalar.muli v742 c1_i32_769
  let v749 : BitVec 32 := Scalar.addi c0_i32_770 v748
  v749.toNat
def k0_dev23 (d0 : Dev nD) : Nat :=
  let c0_i32_821 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_812 : BitVec 32 := 3#32
  let v792 : BitVec 32 := Scalar.xori v2 c3_i32_812
  let c1_i32_820 : BitVec 32 := 1#32
  let v798 : BitVec 32 := Scalar.muli v792 c1_i32_820
  let v799 : BitVec 32 := Scalar.addi c0_i32_821 v798
  v799.toNat
def k0_dev24 (d0 : Dev nD) : Nat :=
  let c0_i32_872 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_863 : BitVec 32 := 4#32
  let v842 : BitVec 32 := Scalar.xori v2 c4_i32_863
  let c1_i32_871 : BitVec 32 := 1#32
  let v848 : BitVec 32 := Scalar.muli v842 c1_i32_871
  let v849 : BitVec 32 := Scalar.addi c0_i32_872 v848
  v849.toNat
def k0_dev25 (d0 : Dev nD) : Nat :=
  let c0_i32_912 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_903 : BitVec 32 := 3#32
  let v880 : BitVec 32 := Scalar.xori v2 c3_i32_903
  let c1_i32_911 : BitVec 32 := 1#32
  let v886 : BitVec 32 := Scalar.muli v880 c1_i32_911
  let v887 : BitVec 32 := Scalar.addi c0_i32_912 v886
  v887.toNat
def k0_dev26 (d0 : Dev nD) : Nat :=
  let c0_i32_952 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_943 : BitVec 32 := 4#32
  let v918 : BitVec 32 := Scalar.xori v2 c4_i32_943
  let c1_i32_951 : BitVec 32 := 1#32
  let v924 : BitVec 32 := Scalar.muli v918 c1_i32_951
  let v925 : BitVec 32 := Scalar.addi c0_i32_952 v924
  v925.toNat
def k0_dev27 (d0 : Dev nD) : Nat :=
  let c0_i32_992 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_983 : BitVec 32 := 1#32
  let v956 : BitVec 32 := Scalar.xori v2 c1_i32_983
  let c1_i32_991 : BitVec 32 := 1#32
  let v962 : BitVec 32 := Scalar.muli v956 c1_i32_991
  let v963 : BitVec 32 := Scalar.addi c0_i32_992 v962
  v963.toNat
def k0_dev28 (d0 : Dev nD) : Nat :=
  let c0_i32_1032 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1023 : BitVec 32 := 4#32
  let v994 : BitVec 32 := Scalar.xori v2 c4_i32_1023
  let c1_i32_1031 : BitVec 32 := 1#32
  let v1000 : BitVec 32 := Scalar.muli v994 c1_i32_1031
  let v1001 : BitVec 32 := Scalar.addi c0_i32_1032 v1000
  v1001.toNat
def k0_dev29 (d0 : Dev nD) : Nat :=
  let c0_i32_1072 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1063 : BitVec 32 := 1#32
  let v1032 : BitVec 32 := Scalar.xori v2 c1_i32_1063
  let c1_i32_1071 : BitVec 32 := 1#32
  let v1038 : BitVec 32 := Scalar.muli v1032 c1_i32_1071
  let v1039 : BitVec 32 := Scalar.addi c0_i32_1072 v1038
  v1039.toNat
def k0_dev30 (d0 : Dev nD) : Nat :=
  let c0_i32_1112 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1103 : BitVec 32 := 3#32
  let v1070 : BitVec 32 := Scalar.xori v2 c3_i32_1103
  let c1_i32_1111 : BitVec 32 := 1#32
  let v1076 : BitVec 32 := Scalar.muli v1070 c1_i32_1111
  let v1077 : BitVec 32 := Scalar.addi c0_i32_1112 v1076
  v1077.toNat
abbrev stage0_0 : Fin 1 → Memref sig .tc .vmem S256x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S512x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S256x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== ReferenceIdeal.lean ====
abbrev S256x256 : Shape := ⟨2, ![256, 256]⟩
abbrev S256x4096 : Shape := ⟨2, ![256, 4096]⟩
abbrev S4096x256 : Shape := ⟨2, ![4096, 256]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S256x256, .f32⟩
  | .hbm, ⟨1, _⟩ => ⟨S256x4096, .f32⟩
  | .hbm, ⟨2, _⟩ => ⟨S4096x256, .f32⟩
  | .hbm, ⟨3, _⟩ => ⟨S256x4096, .f32⟩
  | .hbm, ⟨4, _⟩ => ⟨S4096x256, .f32⟩
  | .hbm, ⟨5, _⟩ => ⟨S256x4096, .f32⟩
  | .hbm, ⟨6, _⟩ => ⟨S4096x256, .f32⟩
  | .hbm, ⟨7, _⟩ => ⟨S256x4096, .f32⟩
  | .hbm, ⟨8, _⟩ => ⟨S_, .f32⟩
  | .hbm, ⟨9, _⟩ => ⟨S256x4096, .f32⟩
  | .hbm, ⟨10, _⟩ => ⟨S256x4096, .f32⟩
  | .hbm, ⟨11, _⟩ => ⟨S256x256, .f32⟩
  | .hbm, ⟨12, _⟩ => ⟨S256x4096, .f32⟩
  | .hbm, ⟨13, _⟩ => ⟨S_, .f32⟩
  | .hbm, ⟨14, _⟩ => ⟨S256x4096, .f32⟩
  | .hbm, ⟨15, _⟩ => ⟨S256x4096, .f32⟩
  | .hbm, ⟨16, _⟩ => ⟨S256x256, .f32⟩
  | .hbm, ⟨17, _⟩ => ⟨S256x4096, .f32⟩
  | .hbm, ⟨18, _⟩ => ⟨S_, .f32⟩
  | .hbm, ⟨19, _⟩ => ⟨S256x4096, .f32⟩
  | .hbm, ⟨20, _⟩ => ⟨S256x4096, .f32⟩
  | .hbm, ⟨21, _⟩ => ⟨S256x256, .f32⟩
  | _, _ => ⟨S256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩

abbrev nD : Nat := 1
abbrev τ : Topo := Topo.v7x

variable {F : FTy → Type} [FloatOps F]
-- ==== Proof.StepsIdeal.lean ====
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KernelIdeal.Own

open Cert.KernelIdeal Cert.KernelIdeal.Gen
open Idealize.ShloMosaic Idealize.SL.Sem

variable {F : FTy → Type} [FloatOps F]

/-! ## The row thirds and the exchanges -/

/-- How many rows the third `j` has: 88, 88, 80. -/
def sz (j : Fin 3) : ℕ := bif j.val == 2 then 80 else 88
/-- Its first row: 0, 88, 176. -/
def off (j : Fin 3) : ℕ := 88 * j.val
/-- The exchanges: a round and a third. -/
abbrev Ex : Type := Fin 9 × Fin 3
/-- The number of an exchange: its slot in the two exchange buffers and its entry in the two semaphore arrays. -/
def num (x : Ex) : Fin 27 := ⟨3 * x.1.val + x.2.val, by omega⟩

/-- A third's rows. -/
abbrev SR (j : Fin 3) : Shape := ⟨2, ![sz j, 256]⟩
/-- A third's rows, as one slot's leading rows. -/
abbrev SC (j : Fin 3) : Shape := ⟨3, ![1, sz j, 256]⟩
/-- A third of the hidden activations. -/
abbrev SH (j : Fin 3) : Shape := ⟨2, ![sz j, 512]⟩

/-- A third is not empty. -/
theorem SR_pos (j : Fin 3) : 0 < (SR j).numel := by revert j; decide
/-- Nor is a slot. -/
theorem SC_pos (j : Fin 3) : 0 < (SC j).numel := by revert j; decide
/-- A third may be read at its own shape. -/
theorem SR_SR (j : Fin 3) : (SR j).ShapeCasts (SR j) := by revert j; decide
/-- A third fits a slot. -/
theorem SR_SC (j : Fin 3) : (SR j).ShapeCasts (SC j) := by revert j; decide
/-- A slot fits a third. -/
theorem SC_SR (j : Fin 3) : (SC j).ShapeCasts (SR j) := by revert j; decide
/-- A slot without its first axis has a third's shape. -/
theorem SC_sq (j : Fin 3) : (SC j).Squeezes (SR j) := by revert j; decide

/-- The thirds lie within the rows. -/
theorem rows_inb (j : Fin 3) : ∀ a, (![off j, 0] : Fin 2 → ℕ) a + (SR j).size a ≤ S256x256.size a := by revert j; decide
/-- The slots lie within their buffer. -/
theorem slot_inb (x : Ex) : ∀ a, (![(num x).val, 0, 0] : Fin 3 → ℕ) a + (SC x.2).size a ≤ S27x88x256.size a := by
  revert x; decide +kernel
/-- The semaphores lie within their array. -/
theorem sem_inb (x : Ex) : ∀ a, (![(num x).val] : Fin 1 → ℕ) a + S1.size a ≤ S27.size a := by
  revert x; decide +kernel

/-- The rows of a third. -/
abbrev rows (j : Fin 3) : Rect S256x256 := Rect.unit (s := S256x256) ![off j, 0] (SR j).size (rows_inb j)
/-- The leading rows of a slot. -/
abbrev slotR (x : Ex) : Rect S27x88x256 := Rect.unit (s := S27x88x256) ![(num x).val, 0, 0] (SC x.2).size (slot_inb x)

/-- A slot has whole packed rows. -/
theorem slot_packed (x : Ex) : (slotR x).PackedRows (EltTy.packing .bf16) := by revert x; decide +kernel
/-- A slot has whole words. -/
theorem slot_words (x : Ex) : (slotR x).WholeWords (EltTy.packing .bf16) := (slot_packed x).wholeWords

/-! ## The buffers -/

/-- The staged `x`. -/
abbrev xM : Memref sig .tc .vmem S256x256 .f32 := Memref.whole cc0_stg0_0
/-- The staged result. -/
abbrev outM : Memref sig .tc .vmem S256x256 .f32 := Memref.whole cc0_stg7_0
/-- The first matrix of layer `l`. -/
abbrev winM (l : ℕ) : Memref sig .tc .vmem S256x512 .f32 :=
  bif l == 0 then Memref.whole cc0_stg1_0 else bif l == 1 then Memref.whole cc0_stg3_0 else Memref.whole cc0_stg5_0
/-- The second matrix of layer `l`. -/
abbrev woutM (l : ℕ) : Memref sig .tc .vmem S512x256 .f32 :=
  bif l == 0 then Memref.whole cc0_stg2_0 else bif l == 1 then Memref.whole cc0_stg4_0 else Memref.whole cc0_stg6_0
/-- The running value. -/
abbrev accM : Memref sig .tc .vmem S256x256 .f32 := Memref.whole cc0_scratch0
/-- What arrives. -/
abbrev commM : Memref sig .tc .vmem S27x88x256 .bf16 := Memref.whole cc0_scratch1
/-- What is sent. -/
abbrev stageM : Memref sig .tc .vmem S27x88x256 .bf16 := Memref.whole cc0_scratch2

/-- An exchange's landing slot, as the copy writes it. -/
abbrev commV (x : Ex) : Memref sig .tc .vmem (SR x.2) .bf16 := (commM.slice (slotR x) (fun _ => rfl)).squeeze (SR x.2) (SC_sq x.2)
/-- An exchange's staging slot, as the copy reads it. -/
abbrev stageV (x : Ex) : Memref sig .tc .vmem (SR x.2) .bf16 := (stageM.slice (slotR x) (fun _ => rfl)).squeeze (SR x.2) (SC_sq x.2)
/-- An exchange's send semaphore. -/
abbrev sendS (x : Ex) : DmaSem sig := ((cc0_scratch3.slice (Rect.unit (s := S27) ![(num x).val] S1.size (sem_inb x))).squeeze S_ squeezes_S1_S_).sem
/-- An exchange's receive semaphore. -/
abbrev recvS (x : Ex) : DmaSem sig := ((cc0_scratch4.slice (Rect.unit (s := S27) ![(num x).val] S1.size (sem_inb x))).squeeze S_ squeezes_S1_S_).sem

/-- The semaphore of the entry barrier. -/
abbrev barS : Sem sig := (SemArray.scalar (sig.barrier 0 rfl) : Sems sig S_).sem

/-- A landing slot is whole words. -/
theorem commV_word (x : Ex) : (commV x).view.WordExact :=
  ((Memref.isWhole_whole cc0_scratch1).wordExact_slice rfl _ (slot_words x)).reshape _ _
/-- A staging slot is whole words. -/
theorem stageV_word (x : Ex) : (stageV x).view.WordExact :=
  ((Memref.isWhole_whole cc0_scratch2).wordExact_slice rfl _ (slot_words x)).reshape _ _

/-- The peer of exchange `x`, as the program computes it. -/
def peer (x : Ex) (d : Dev nD) : Dev nD :=
  ((![⟨k0_dev4 d, k0_dev4_lt d⟩, ⟨k0_dev5 d, k0_dev5_lt d⟩, ⟨k0_dev6 d, k0_dev6_lt d⟩, ⟨k0_dev7 d, k0_dev7_lt d⟩,
    ⟨k0_dev8 d, k0_dev8_lt d⟩, ⟨k0_dev9 d, k0_dev9_lt d⟩, ⟨k0_dev10 d, k0_dev10_lt d⟩, ⟨k0_dev11 d, k0_dev11_lt d⟩,
    ⟨k0_dev12 d, k0_dev12_lt d⟩, ⟨k0_dev13 d, k0_dev13_lt d⟩, ⟨k0_dev14 d, k0_dev14_lt d⟩, ⟨k0_dev15 d, k0_dev15_lt d⟩,
    ⟨k0_dev16 d, k0_dev16_lt d⟩, ⟨k0_dev17 d, k0_dev17_lt d⟩, ⟨k0_dev18 d, k0_dev18_lt d⟩, ⟨k0_dev19 d, k0_dev19_lt d⟩,
    ⟨k0_dev20 d, k0_dev20_lt d⟩, ⟨k0_dev21 d, k0_dev21_lt d⟩, ⟨k0_dev22 d, k0_dev22_lt d⟩, ⟨k0_dev23 d, k0_dev23_lt d⟩,
    ⟨k0_dev24 d, k0_dev24_lt d⟩, ⟨k0_dev25 d, k0_dev25_lt d⟩, ⟨k0_dev26 d, k0_dev26_lt d⟩, ⟨k0_dev27 d, k0_dev27_lt d⟩,
    ⟨k0_dev28 d, k0_dev28_lt d⟩, ⟨k0_dev29 d, k0_dev29_lt d⟩, ⟨k0_dev30 d, k0_dev30_lt d⟩] : Fin 27 → Dev nD) (num x))

/-! ## What the steps compute -/

/-- A layer's first product on a third. -/
def dotA (j : Fin 3) : DotDims (SR j) S256x512 (SH j) where
  lhsContracting := [1]
  rhsContracting := [0]
  lhsNonContracting := [0]
  rhsNonContracting := [1]
  lhsBatch := []
  rhsBatch := []
  wf := by revert j; decide
/-- A layer's second product on a third. -/
def dotB (j : Fin 3) : DotDims (SH j) S512x256 (SR j) where
  lhsContracting := [1]
  rhsContracting := [0]
  lhsNonContracting := [0]
  rhsNonContracting := [1]
  lhsBatch := []
  rhsBatch := []
  wf := by revert j; decide

/-- One device's share of a layer on a third: the product with its columns of the first matrix, the positive part,
    the product with its rows of the second. -/
def lay (j : Fin 3) (v : Vec F (SR j) .f32) (w : Vec F S256x512 .f32) (u : Vec F S512x256 .f32) : FVec F (SR j) .f32 :=
  shapeCast (SR j)
    (matmul (dotB j) none
      (maximumf (matmul (dotA j) none v (shapeCast S256x512 w shapeCasts_S256x512_S256x512) (constant (SH j) .f32 0x00000000#32))
        (broadcast (SH j) (Scalar.ofBits .f32 0x00000000#32)))
      (shapeCast S512x256 u shapeCasts_S512x256_S512x256) (constant (SR j) .f32 0x00000000#32)) (SR_SR j)
/-- A third in the exchange's format, as a slot. -/
def pack (j : Fin 3) (v : Vec F (SR j) .f32) : FVec F (SC j) .bf16 := shapeCast (SC j) (truncf .bf16 v bitsLt_bf16_f32) (SR_SC j)
/-- A third plus what arrived. -/
def plus (j : Fin 3) (v : Vec F (SR j) .f32) (w : Vec F (SC j) .bf16) : FVec F (SR j) .f32 :=
  addf v (extf .f32 (shapeCast (SR j) w (SC_SR j)) bitsLt_bf16_f32)

/-! ## The steps -/

/-- A program of the kernel. -/
abbrev Pg (F : FTy → Type) [FloatOps F] : Type 1 := Prog (TpuEff nD τ sig (Elt F) Λ₀ .tc) PUnit

/-- A layer on a third, in place. -/
def compute (l : ℕ) (j : Fin 3) : Pg F := do
  let v ← Prog.lift (.load accM (rows j).toLoadRect (View.loadsAt_vmem (SR_pos j)))
  let w ← Prog.lift (.load (winM l) (Rect.unit (s := S256x512) ![0, 0] S256x512.size inb_S256x512_S256x512_0_0).toLoadRect (View.loadsAt_vmem h_S256x512))
  let u ← Prog.lift (.load (woutM l) (Rect.unit (s := S512x256) ![0, 0] S512x256.size inb_S512x256_S512x256_0_0).toLoadRect (View.loadsAt_vmem h_S512x256))
  let _ ← Prog.lift (.load accM (rows j).toLoadRect (View.loadsAt_vmem (SR_pos j)))
  Prog.lift (.store accM (rows j) (lay j v w u) Finset.univ (View.stores_vmem_bits_univ (SR_pos j) rfl) (.inl rfl))

/-- The start of exchange `x` with device `n`: the third goes to the slot, the slot's copy to `n`. -/
def sendTo (n : Dev nD) (x : Ex) : Pg F := do
  let v ← Prog.lift (.load accM (rows x.2).toLoadRect (View.loadsAt_vmem (SR_pos x.2)))
  let _ ← Prog.lift (.load stageM (slotR x).toLoadRect (View.loadsAt_vmem (SC_pos x.2)))
  Prog.lift (.store stageM (slotR x) (pack x.2 v) Finset.univ
    (View.stores_vmem (SC_pos x.2) ((Memref.isWhole_whole cc0_scratch2).storeExact_slice rfl _ (slot_packed x)) (fun _ => rfl)) (.inl rfl))
  Prog.lift (.enqueueDma (stageV x) (.remote (Dev.tc n) (commV x) (.dma (sendS x))) (.dma (recvS x))
    (stageV_word x) (commV_word x) ⟨⟨rfl, Or.inl rfl⟩, trivial⟩)

/-- The start of exchange `x`. -/
def send (d : Dev nD) (x : Ex) : Pg F := sendTo (peer x d) x

/-- The end of exchange `x`: both transfers have completed. -/
def await (x : Ex) : Pg F := do
  Prog.lift (.waitDma2 (sendS x) (commV x) (stageV x) (commV_word x) (stageV_word x))
  Prog.lift (.waitDma2 (recvS x) (stageV x) (commV x) (stageV_word x) (commV_word x))

/-- What arrived in exchange `x` is added to the third. -/
def accumulate (x : Ex) : Pg F := do
  let v ← Prog.lift (.load accM (rows x.2).toLoadRect (View.loadsAt_vmem (SR_pos x.2)))
  let w ← Prog.lift (.load commM (slotR x).toLoadRect (View.loadsAt_vmem (SC_pos x.2)))
  let _ ← Prog.lift (.load accM (rows x.2).toLoadRect (View.loadsAt_vmem (SR_pos x.2)))
  Prog.lift (.store accM (rows x.2) (shapeCast (SR x.2) (plus x.2 v w) (SR_SR x.2)) Finset.univ (View.stores_vmem_bits_univ (SR_pos x.2) rfl) (.inl rfl))

/-- What arrived in the last exchange is added to the third, into the result. -/
def deliver (x : Ex) : Pg F := do
  let v ← Prog.lift (.load accM (rows x.2).toLoadRect (View.loadsAt_vmem (SR_pos x.2)))
  let w ← Prog.lift (.load commM (slotR x).toLoadRect (View.loadsAt_vmem (SC_pos x.2)))
  let _ ← Prog.lift (.load outM (rows x.2).toLoadRect (View.loadsAt_vmem (SR_pos x.2)))
  Prog.lift (.store outM (rows x.2) (plus x.2 v w) Finset.univ (View.stores_vmem_bits_univ (SR_pos x.2) rfl) (.inl rfl))

/-- Round `t` on the third `j`: the exchange is awaited and added; a layer follows after every third round, and the
    next exchange starts. -/
def round (d : Dev nD) (t : ℕ) (j : Fin 3) (h : t < 9) : Pg F :=
  await (⟨t, h⟩, j) >>= fun _ =>
  if h' : t + 1 < 9 then
    accumulate (⟨t, h⟩, j) >>= fun _ =>
    bif (t + 1) % 3 == 0 then compute ((t + 1) / 3) j >>= fun _ => send d (⟨t + 1, h'⟩, j)
    else send d (⟨t + 1, h'⟩, j)
  else deliver (⟨t, h⟩, j)

/-- The rounds from the `k`-th on. -/
def rounds (d : Dev nD) : ℕ → ℕ → Pg F
  | 0, _ => pure ⟨⟩
  | n + 1, k => (if h : k < 27 then round d (k / 3) ⟨k % 3, Nat.mod_lt _ (by decide)⟩ (by omega) else pure ⟨⟩) >>= fun _ => rounds d n (k + 1)

/-- The body: the barrier is signalled, the input copied and the first layer computed, the barrier awaited, the first
    exchanges started, and the rounds run. -/
def body : Pg F := do
  let d ← Prog.lift .deviceId
  semSignalWord (⟨k0_dev1 d, k0_dev1_lt d⟩ : Dev nD) barS 1#32
  semSignalWord (⟨k0_dev2 d, k0_dev2_lt d⟩ : Dev nD) barS 1#32
  semSignalWord (⟨k0_dev3 d, k0_dev3_lt d⟩ : Dev nD) barS 1#32
  let v ← Prog.lift (.load xM (Rect.unit (s := S256x256) ![0, 0] S256x256.size inb_S256x256_S256x256_0_0).toLoadRect (View.loadsAt_vmem h_S256x256))
  let _ ← Prog.lift (.load accM (Rect.unit (s := S256x256) ![0, 0] S256x256.size inb_S256x256_S256x256_0_0).toLoadRect (View.loadsAt_vmem h_S256x256))
  Prog.lift (.store accM (Rect.unit (s := S256x256) ![0, 0] S256x256.size inb_S256x256_S256x256_0_0) (shapeCast S256x256 (shapeCast S256x256 v shapeCasts_S256x256_S256x256) shapeCasts_S256x256_S256x256) Finset.univ (View.stores_vmem_bits_univ h_S256x256 rfl) (.inl rfl))
  compute 0 0
  compute 0 1
  compute 0 2
  semWaitWord barS 3#32
  send d (0, 0)
  send d (0, 1)
  send d (0, 2)
  rounds d 27 0

end Cert.KernelIdeal.Own
-- ==== Proof.ProtoIdeal.lean ====
module

public import proofs.«01_k».proof.Proof.StepsIdeal

@[expose] public section

noncomputable section

namespace Cert.KernelIdeal.Own

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

set_option maxRecDepth 100000 in
/-- The printed body is the steps in order. -/
theorem body_eq : cc0_body (F := F) xM (Memref.isWhole_whole _) (winM 0) (Memref.isWhole_whole _) (woutM 0) (Memref.isWhole_whole _)
    (winM 1) (Memref.isWhole_whole _) (woutM 1) (Memref.isWhole_whole _) (winM 2) (Memref.isWhole_whole _) (woutM 2) (Memref.isWhole_whole _)
    outM (Memref.isWhole_whole _) accM (Memref.isWhole_whole _) commM (Memref.isWhole_whole _) stageM (Memref.isWhole_whole _)
    cc0_scratch3 cc0_scratch4 = body := by
  chain_rfl

/-- The protocol's state. -/
abbrev UB : Type := URounds (GSem nD τ sig) (Fin 3)
/-- The machine's state beside the protocol's. -/
abbrev UU : Type := UR sig nD τ × UB

local notation "𝕄" => MT nD τ sig Unit (Elt F) ℕ UU ℕ

/-- The machine's state as a part of both. -/
abbrev EP : Emb (UR sig nD τ) (MT nD τ sig Unit (Elt F) ℕ UU ℕ) := embL
/-- The protocol's state as a part of both. -/
abbrev ER : Emb UB (MT nD τ sig Unit (Elt F) ℕ UU ℕ) := embR

/-- No loop needs a variant. -/
abbrev 𝒱₀ : Variants := Variants.none

/-! ## The partners -/

/-- The partner across bit pattern 1, 3 or 4. -/
def flip (i : Fin 3) (c : Dev nD) : Dev nD := ⟨(c.val ^^^ (![1, 3, 4] : Fin 3 → ℕ) i) % 8, Nat.mod_lt _ (by decide)⟩
/-- Which of the three partners the exchange of round `t` on the third `j` goes to. -/
def dir (t : ℕ) (j : Fin 3) : Fin 3 := ⟨(t + j.val) % 3, Nat.mod_lt _ (by decide)⟩
/-- Which of the three partners exchange `x` goes to. -/
abbrev mk (x : Ex) : Fin 3 := dir x.1.val x.2
/-- The partner in exchange `x`. -/
abbrev par (x : Ex) (c : Dev nD) : Dev nD := flip (mk x) c

/-- The partner of the partner is the device. -/
theorem flip_flip (i : Fin 3) (c : Dev nD) : flip i (flip i c) = c := by revert i c; decide
/-- The same, by exchange. -/
theorem par_par (x : Ex) (c : Dev nD) : par x (par x c) = c := flip_flip _ c
/-- The device that an exchange names is its partner. -/
theorem peer_eq (x : Ex) (c : Dev nD) : peer x c = par x c := by revert x c; decide +kernel
/-- The first barrier signal goes to the partner of direction 0. -/
theorem dev1_eq (c : Dev nD) : (⟨k0_dev1 c, k0_dev1_lt c⟩ : Dev nD) = flip 0 c := by revert c; decide
/-- The second goes to the partner of direction 1. -/
theorem dev2_eq (c : Dev nD) : (⟨k0_dev2 c, k0_dev2_lt c⟩ : Dev nD) = flip 1 c := by revert c; decide
/-- The third goes to the partner of direction 2. -/
theorem dev3_eq (c : Dev nD) : (⟨k0_dev3 c, k0_dev3_lt c⟩ : Dev nD) = flip 2 c := by revert c; decide

/-- The partners of one direction, as a permutation of the devices. -/
def flipE (i : Fin 3) : Dev nD ≃ Dev nD := ⟨flip i, flip i, flip_flip i, flip_flip i⟩

/-! ## The cells -/

/-- A device's barrier. -/
abbrev barCell (c : Dev nD) : GSem nD τ sig := ((c : Thread nD τ), .reg barS)
/-- Where its copy of an exchange reports that it has read. -/
abbrev sendCell (c : Dev nD) (x : Ex) : GSem nD τ sig := ((c : Thread nD τ), .dma (sendS x))
/-- Where its partner's copy reports that it has landed. -/
abbrev recvCell (c : Dev nD) (x : Ex) : GSem nD τ sig := ((c : Thread nD τ), .dma (recvS x))

/-- The kernel's own semaphores: the sends', the receives'. -/
abbrev osem : Ex ⊕ Ex → SemLoc sig := Sum.elim (fun x => .dma (sendS x)) fun x => .dma (recvS x)
/-- With the barrier's. -/
abbrev csem : Unit ⊕ (Ex ⊕ Ex) → SemLoc sig := Sum.elim (fun _ => .reg barS) osem
/-- A cell by its device and kind. -/
abbrev kcell (ck : Dev nD × (Unit ⊕ (Ex ⊕ Ex))) : GSem nD τ sig := ((ck.1 : Thread nD τ), csem ck.2)

/-- The exchange numbered `n`. -/
def exAt (n : ℕ) : Ex := (⟨n / 3 % 9, Nat.mod_lt _ (by decide)⟩, ⟨n % 3, Nat.mod_lt _ (by decide)⟩)
/-- An exchange is found by its number. -/
theorem exAt_num (x : Ex) : exAt (num x).val = x := by revert x; decide
/-- What a transfer's semaphore is for: an exchange's send, an exchange's receive, or neither. -/
def decode (q : DmaSem sig) : Option (Ex ⊕ Ex) :=
  bif q.val < 8 then none else bif q.val < 35 then some (.inl (exAt (q.val - 8))) else some (.inr (exAt (q.val - 35)))
/-- A send semaphore is told by its exchange. -/
theorem decode_send (x : Ex) : decode (sendS x) = some (.inl x) := by revert x; decide +kernel
/-- So is a receive semaphore. -/
theorem decode_recv (x : Ex) : decode (recvS x) = some (.inr x) := by revert x; decide +kernel

/-! ## The values -/

/-- What the devices start from: the input and the layers' matrices. -/
structure Inp (F : FTy → Type) [FloatOps F] where
  x : Dev nD → Vec F S256x256 .f32
  w : ℕ → Dev nD → Vec F S256x512 .f32
  u : ℕ → Dev nD → Vec F S512x256 .f32

/-- A third's rows. -/
def third (j : Fin 3) (X : Vec F S256x256 .f32) : Vec F (SR j) .f32 := fun i => X ((rows j).emb i)

/-- The running third `j` on device `c` when exchange `t` on it starts: at the start the first layer's share; after
    exchange `t`, it plus what arrived; after every third exchange that through the next layer's share. -/
def acc (p : Inp F) (j : Fin 3) : ℕ → Dev nD → Vec F (SR j) .f32
  | 0, c => lay j (third j (p.x c)) (p.w 0 c) (p.u 0 c)
  | t + 1, c =>
    let y := plus j (acc p j t c) (pack j (acc p j t (flip (dir t j) c)))
    bif (t + 1) % 3 == 0 then lay j y (p.w ((t + 1) / 3) c) (p.u ((t + 1) / 3) c) else y

/-- The third plus what arrived in exchange `t`. -/
def sum (p : Inp F) (j : Fin 3) (t : ℕ) (c : Dev nD) : Vec F (SR j) .f32 :=
  plus j (acc p j t c) (pack j (acc p j t (flip (dir t j) c)))

/-- What device `c` sends in exchange `x`. -/
def sent (p : Inp F) (c : Dev nD) (x : Ex) : Vec F (SC x.2) .bf16 := pack x.2 (acc p x.2 x.1.val c)

/-! ## The buffers' parts -/

/-- An exchange's landing slot. -/
abbrev commSl (x : Ex) : Memref sig .tc .vmem (SC x.2) .bf16 := commM.slice (slotR x) (fun _ => rfl)
/-- An exchange's staging slot. -/
abbrev stageSl (x : Ex) : Memref sig .tc .vmem (SC x.2) .bf16 := stageM.slice (slotR x) (fun _ => rfl)
/-- A third of the running value. -/
abbrev accSl (j : Fin 3) : Memref sig .tc .vmem (SR j) .f32 := accM.slice (rows j) (fun _ => rfl)
/-- A third of the result. -/
abbrev outSl (j : Fin 3) : Memref sig .tc .vmem (SR j) .f32 := outM.slice (rows j) (fun _ => rfl)

/-- The slot of exchange `x` that arrivals go to, on device `c`, at `X`; -/
def commAt (c : Dev nD) (x : Ex) (X : Vec F (SC x.2) .bf16) : sProp 𝕄 := owns (c : Thread nD τ) (commSl x) fullShare X
/-- at some contents; -/
def commFree (c : Dev nD) (x : Ex) : sProp 𝕄 := iprop(∃ X, commAt c x X)
/-- the slot that it is sent from, at some contents. -/
def stageFree (c : Dev nD) (x : Ex) : sProp 𝕄 := iprop(∃ X : Vec F (SC x.2) .bf16, owns (c : Thread nD τ) (stageSl x) fullShare X)

/-- A landing slot at a value can be handed over by a cell. -/
instance commAt_storable (c : Dev nD) (x : Ex) (X) : BI.Storable (upEmb : UEmb _ 𝕄) (commAt (F := F) c x X) := by unfold commAt; infer_instance
/-- So can a landing slot at any value. -/
instance commFree_storable (c : Dev nD) (x : Ex) : BI.Storable (upEmb : UEmb _ 𝕄) (commFree (F := F) c x) := by unfold commFree; infer_instance
/-- So can a staging slot. -/
instance stageFree_storable (c : Dev nD) (x : Ex) : BI.Storable (upEmb : UEmb _ 𝕄) (stageFree (F := F) c x) := by unfold stageFree; infer_instance

/-! ## The schedule -/

/-- The units of exchange `x`: its slot's. -/
abbrev N (x : Ex) : ℕ := (commV x).view.dmaCredit
/-- An exchange's amount is positive. -/
theorem N_pos (x : Ex) : 0 < N x := View.dmaCredit_pos _ (SR_pos x.2)

/-- What the barrier's unit from the partner across `i` hands device `c`: that partner's slots for the exchanges with it. -/
def barPay (c : Dev nD) (i : Fin 3) : sProp 𝕄 :=
  bigSep Finset.univ fun x : Ex => if mk x = i then commFree (par x c) x else iprop(emp)

/-- So can what a barrier unit carries. -/
instance barPay_storable (c : Dev nD) (i : Fin 3) : BI.Storable (upEmb : UEmb _ 𝕄) (barPay (F := F) c i) := by
  unfold barPay
  have : ∀ x : Ex, BI.Storable (upEmb : UEmb _ 𝕄) (if mk x = i then commFree (F := F) (par x c) x else iprop(emp)) := fun x => by
    split <;> infer_instance
  infer_instance

/-- A duty's units at a semaphore. -/
def units (sm : SemLoc sig) : ℕ := match sm with
  | .reg _ => 1
  | .dma q => match decode q with
    | none => 1
    | some (.inl x) => N x
    | some (.inr x) => N x
/-- Every unit of the schedule is positive. -/
theorem units_pos (sm : SemLoc sig) : 0 < units sm := by
  unfold units
  (repeat' split)
  exacts [Nat.one_pos, Nat.one_pos, N_pos _, N_pos _]

/-- One round. A barrier cell has one unit from each partner. A send cell's units come back with the slot sent from, a
    receive cell's with the slot holding what the partner sent. -/
def sched (p : Inp F) : Rounds.Schedule (GSem nD τ sig) (Fin 3) 𝕄 where
  duties g r := if r = 0 ∧ g.1.2 = .tc then (match g.2 with
    | .reg _ => Finset.univ
    | .dma q => match decode q with
      | none => ∅
      | some _ => {0}) else ∅
  unitless _ := False
  amount g _ _ := units g.2
  payload g _ d := match g.2 with
    | .reg _ => barPay g.1.1 d
    | .dma q => match decode q with
      | none => iprop(emp)
      | some (.inl x) => stageFree g.1.1 x
      | some (.inr x) => commAt g.1.1 x (sent p (par x g.1.1) x)
  amount_pos g _ _ _ := units_pos g.2

/-- Whatever the schedule hands over can be handed over by a cell. -/
instance sched_payload_storable (p : Inp F) (g : GSem nD τ sig) (r : ℕ) (d : Fin 3) :
    BI.Storable (upEmb : UEmb _ 𝕄) ((sched p).payload g r d) := by
  dsimp only [sched]
  (repeat' split) <;> infer_instance

/-- Grouped by partner, every exchange is there once. -/
theorem deal (Φ : Ex → sProp 𝕄) :
    (bigSep Finset.univ fun i : Fin 3 => bigSep Finset.univ fun x : Ex => if mk x = i then Φ x else iprop(emp)) = bigSep Finset.univ Φ := by
  refine ((bigSep_univ_comm (M := 𝕄) (fun (i : Fin 3) (x : Ex) => if mk x = i then Φ x else iprop(emp))).trans (bigSep_congr fun x _ => ?_))
  have e := bigSep_filter Finset.univ (fun i => mk x = i) (fun _ => Φ x)
  rw [Finset.filter_eq, if_pos (Finset.mem_univ _), bigSep_singleton] at e
  exact e.symm

/-- A device's slots, grouped by partner, are what its units to its partners' barriers hand them. -/
theorem deal_bar (c : Dev nD) : (bigSep Finset.univ fun i : Fin 3 => barPay (F := F) (flip i c) i) = bigSep Finset.univ fun x : Ex => commFree c x := by
  rw [← deal fun x => commFree (F := F) c x]
  refine bigSep_congr fun i _ => bigSep_congr fun x _ => ?_
  by_cases h : mk x = i
  · subst h; rw [if_pos rfl, if_pos rfl, par_par]
  · rw [if_neg h, if_neg h]

section Sched
variable (p : Inp F) (c : Dev nD) (x : Ex)

/-- A barrier is paid by three duties. -/
theorem duties_bar : (sched p).duties (barCell c) 0 = Finset.univ := by dsimp only [sched]; exact if_pos ⟨rfl, rfl⟩
/-- A send cell is paid by one. -/
theorem duties_send : (sched p).duties (sendCell c x) 0 = {0} := by dsimp only [sched]; rw [if_pos ⟨rfl, rfl⟩, decode_send]
/-- A receive cell is paid by one. -/
theorem duties_recv : (sched p).duties (recvCell c x) 0 = {0} := by dsimp only [sched]; rw [if_pos ⟨rfl, rfl⟩, decode_recv]
/-- Nothing is due after the first round. -/
theorem duties_later (g : GSem nD τ sig) : ∀ r, 1 ≤ r → (sched p).duties g r = ∅ :=
  fun r hr => by dsimp only [sched]; rw [if_neg fun h => by omega]

/-- A barrier duty is one unit. -/
theorem amount_bar (d : Fin 3) : (sched p).amount (barCell c) 0 d = 1 := rfl
/-- A send duty is the exchange's amount. -/
theorem amount_send (d : Fin 3) : (sched p).amount (sendCell c x) 0 d = N x := by dsimp only [sched, units]; rw [decode_send]
/-- A receive duty is the exchange's amount. -/
theorem amount_recv (d : Fin 3) : (sched p).amount (recvCell c x) 0 d = N x := by dsimp only [sched, units]; rw [decode_recv]

/-- A barrier expects three units. -/
theorem expect_bar : (sched p).expect (barCell c) 0 = 3 := by
  unfold Schedule.expect Schedule.amountOf; rw [duties_bar]; rfl
/-- A send cell expects the exchange's amount. -/
theorem expect_send : (sched p).expect (sendCell c x) 0 = N x := by
  unfold Schedule.expect Schedule.amountOf; rw [duties_send, Finset.sum_singleton, amount_send]
/-- A receive cell expects the exchange's amount. -/
theorem expect_recv : (sched p).expect (recvCell c x) 0 = N x := by
  unfold Schedule.expect Schedule.amountOf; rw [duties_recv, Finset.sum_singleton, amount_recv]

/-- A barrier unit carries the payer's landing slots of that direction. -/
theorem payload_bar (d : Fin 3) : (sched p).payload (barCell c) 0 d = barPay c d := rfl
/-- A send cell hands the staging slot back. -/
theorem payload_send (d : Fin 3) : (sched p).payload (sendCell c x) 0 d = stageFree c x := by dsimp only [sched]; rw [decode_send]
/-- A receive cell hands over the landing slot at what the partner sent. -/
theorem payload_recv (d : Fin 3) : (sched p).payload (recvCell c x) 0 d = commAt c x (sent p (par x c) x) := by
  dsimp only [sched]; rw [decode_recv]

/-- The barrier's whole round: for every exchange the partner's slot. -/
theorem rest_bar : bigSep ((sched p).duties (barCell c) 0 \ ∅) (fun d => (sched p).payload (barCell c) 0 d)
    = bigSep Finset.univ fun x : Ex => commFree (F := F) (par x c) x := by
  rw [Finset.sdiff_empty, duties_bar]
  exact deal fun x => commFree (F := F) (par x c) x
/-- What a wait on a send cell yields is the staging slot. -/
theorem rest_send : bigSep ((sched p).duties (sendCell c x) 0 \ ∅) (fun d => (sched p).payload (sendCell c x) 0 d) = stageFree c x := by
  rw [Finset.sdiff_empty, duties_send, bigSep_singleton, payload_send]
/-- What a wait on a receive cell yields is the landing slot at what was sent. -/
theorem rest_recv : bigSep ((sched p).duties (recvCell c x) 0 \ ∅) (fun d => (sched p).payload (recvCell c x) 0 d)
    = commAt c x (sent p (par x c) x) := by
  rw [Finset.sdiff_empty, duties_recv, bigSep_singleton, payload_recv]

end Sched

/-! ## What a device owes; the levels -/

/-- What device `c` owes from exchange number `k` on: each exchange's units to its partner's receive cell. -/
def owed (k : ℕ) (c : Dev nD) : CellTallies nD τ sig Unit :=
  ∑ x ∈ Finset.univ.filter (fun x : Ex => k ≤ (num x).val), tallyAt (recvCell (par x c) x) () (N x)

/-- Different exchanges have different numbers. -/
theorem num_inj : Function.Injective num := by decide +kernel

/-- Starting an exchange pays its amount off what is owed. -/
theorem owed_num (x : Ex) (c : Dev nD) : owed (num x).val c = owed ((num x).val + 1) c + tallyAt (recvCell (par x c) x) () (N x) := by
  unfold owed
  have e : (Finset.univ.filter fun y : Ex => (num x).val ≤ (num y).val)
      = insert x (Finset.univ.filter fun y : Ex => (num x).val + 1 ≤ (num y).val) := by
    ext y
    simp only [Finset.mem_filter, Finset.mem_univ, true_and, Finset.mem_insert]
    constructor
    · intro h
      rcases Nat.lt_or_eq_of_le h with h | h
      · exact .inr h
      · exact .inl (num_inj (Fin.ext h)).symm
    · rintro (rfl | h)
      · exact le_rfl
      · omega
  rw [e, Finset.sum_insert (by simp), add_comm]

/-- After the last exchange nothing is owed. -/
theorem owed_end (c : Dev nD) {k : ℕ} (hk : 27 ≤ k) : owed k c = 0 := by
  unfold owed
  rw [Finset.filter_false_of_mem fun x _ => by have := (num x).isLt; omega, Finset.sum_empty]

/-- At launch device `c` owes those and each partner's barrier cell one unit. -/
def O₀ (c : Dev nD) : CellTallies nD τ sig Unit :=
  owed 0 c + tallyAt (barCell (flip 2 c)) () 1 + tallyAt (barCell (flip 1 c)) () 1 + tallyAt (barCell (flip 0 c)) () 1

/-- A cell of a core that runs the kernel has one level. -/
def L (g : GSem nD τ sig) : Finset Unit := if g.1.2 = .tc then {()} else ∅
/-- A barrier cell is at 1, exchange `x`'s receive cell at 2 plus its number, everything else at 0. -/
def lv (g : GSem nD τ sig) (_ : Unit) : ℕ := match g.2 with
  | .reg _ => 1
  | .dma q => match decode q with
    | some (.inr x) => 2 + (num x).val
    | _ => 0

/-- Other cores have none. -/
theorem L_of_ne (g : GSem nD τ sig) (h : g.1.2 ≠ .tc) : L g = ∅ := if_neg h
/-- Each of their cells has one. -/
theorem L_tc (c : Dev nD) (sm : SemLoc sig) : L ((c : Thread nD τ), sm) = {()} := if_pos rfl
/-- A receive cell lies above the barrier, by the number of its exchange. -/
theorem lv_recv (c : Dev nD) (x : Ex) : lv (recvCell c x) () = 2 + (num x).val := by dsimp only [lv]; rw [decode_recv]
/-- A send cell lies lowest. -/
theorem lv_send (c : Dev nD) (x : Ex) : lv (sendCell c x) () = 0 := by dsimp only [lv]; rw [decode_send]

/-- What is owed once some exchanges have started lies on the later ones. -/
theorem owed_pos {k : ℕ} {c : Dev nD} {g : GSem nD τ sig} {v : Unit} (h : 0 < owed k c g v) :
    ∃ x : Ex, k ≤ (num x).val ∧ g = recvCell (par x c) x := by
  unfold owed at h
  rw [Finset.sum_apply, Finsupp.finsetSum_apply] at h
  obtain ⟨x, hx, h⟩ := Finset.exists_ne_zero_of_sum_ne_zero h.ne'
  rw [tallyAt_apply] at h
  refine ⟨x, (Finset.mem_filter.mp hx).2, ?_⟩
  by_contra hn
  exact h (if_neg fun h' => hn h'.1)

/-- What is owed at the start lies on receive cells and barriers. -/
theorem O₀_pos {c : Dev nD} {g : GSem nD τ sig} {v : Unit} (h : 0 < O₀ c g v) :
    (∃ x : Ex, g = recvCell (par x c) x) ∨ ∃ i, g = barCell (flip i c) := by
  unfold O₀ at h
  rw [Pi.add_apply, Finsupp.add_apply, Pi.add_apply, Finsupp.add_apply, Pi.add_apply, Finsupp.add_apply, tallyAt_apply, tallyAt_apply, tallyAt_apply] at h
  by_cases h0 : 0 < owed 0 c g v
  · obtain ⟨x, -, hx⟩ := owed_pos h0; exact .inl ⟨x, hx⟩
  · right
    by_contra hn
    rw [if_neg (fun h' => hn ⟨_, h'.1⟩), if_neg (fun h' => hn ⟨_, h'.1⟩), if_neg (fun h' => hn ⟨_, h'.1⟩)] at h
    omega

/-- A device may wait on a cell that lies below everything it owes. -/
theorem mayWait_of (c : Dev nD) (sm : SemLoc sig) (O : CellTallies nD τ sig Unit) (n : ℕ) (h : lv ((c : Thread nD τ), sm) () ≤ n)
    (hO : ∀ g v, 0 < O g v → g.1.2 = .tc ∧ n < lv g ()) : (levAts L lv : sProp 𝕄) ⊢ MayWait (c : Thread nD τ) sm () O :=
  MayOwe.of_cut (L := L) (lev := lv) n (fun q hq => by rw [Finset.mem_singleton.mp hq, L_tc]; exact Finset.mem_singleton_self _)
    (fun g v hg => by unfold L; rw [if_pos (hO g v hg).1]; exact Finset.mem_singleton_self _)
    (fun q hq => by rw [Finset.mem_singleton.mp hq]; exact h)
    (fun g v hg => (hO g v hg).2)

/-- A staging or a send semaphore may be waited on whatever the launch owes. -/
theorem mayWait_stage (c : Dev nD) (q : DmaSem sig) (hq : ∀ x, decode q ≠ some (.inr x)) (O : CellTallies nD τ sig Unit) (hO : O = O₀ c ∨ O = 0) :
    (levAts L lv : sProp 𝕄) ⊢ MayWait (c : Thread nD τ) (.dma q) () O := by
  rcases hO with rfl | rfl
  · refine mayWait_of c _ _ 0 ?_ fun g v hg => ?_
    · dsimp only [lv]; split
      · exact absurd ‹_› (hq _)
      · exact le_rfl
    · rcases O₀_pos hg with ⟨x, rfl⟩ | ⟨i, rfl⟩
      · exact ⟨rfl, by rw [lv_recv]; omega⟩
      · exact ⟨rfl, Nat.one_pos⟩
  · rw [MayWait_zero]; iintro -; iempintro

/-- A barrier cell may be waited on owing the exchanges. -/
theorem mayWait_bar (c : Dev nD) : (levAts L lv : sProp 𝕄) ⊢ MayWait (c : Thread nD τ) (.reg barS) () (owed 0 c) :=
  mayWait_of c _ _ 1 le_rfl fun g v hg => by
    obtain ⟨x, -, rfl⟩ := owed_pos hg
    exact ⟨rfl, by rw [lv_recv]; omega⟩

/-- Exchange `x` may be awaited owing later exchanges only. -/
theorem mayWait_send (c : Dev nD) (x : Ex) (k : ℕ) : (levAts L lv : sProp 𝕄) ⊢ MayWait (c : Thread nD τ) (.dma (sendS x)) () (owed k c) :=
  mayWait_of c _ _ 0 (lv_send c x).le fun g v hg => by
    obtain ⟨x, -, rfl⟩ := owed_pos hg
    exact ⟨rfl, by rw [lv_recv]; omega⟩
/-- It may wait for an exchange to arrive while it owes only later ones. -/
theorem mayWait_recv (c : Dev nD) (x : Ex) {k : ℕ} (hk : (num x).val < k) :
    (levAts L lv : sProp 𝕄) ⊢ MayWait (c : Thread nD τ) (.dma (recvS x)) () (owed k c) :=
  mayWait_of c _ _ (2 + (num x).val) (lv_recv c x).le fun g v hg => by
    obtain ⟨y, hy, rfl⟩ := owed_pos hg
    exact ⟨rfl, by rw [lv_recv]; omega⟩

end Cert.KernelIdeal.Own
-- ==== Proof.BodyIdeal.lean ====
module

public import proofs.«01_k».proof.Proof.ProtoIdeal
public import Idealize.ShloMosaic.Lib.Pipeline.Value

@[expose] public section

noncomputable section

namespace Cert.KernelIdeal.Own

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Loads and stores through a part of a buffer owned at a value -/

section Rules

variable (c : Dev nD) {s : Shape} {e : EltTy} {M : Memref sig .tc .vmem s e}

/-- A load of a rectangle owned at `X` continues at `X`. -/
theorem part_load {α : Type} {Q : α → sProp 𝕄} {r : Rect s} {hr : ∀ a, r.stride a = 1} {hl : M.view.LoadsAt r.toLoadRect} {X : r.shape.Idx → Elt F e}
    {k : (r.shape.Idx → Elt F e) → Prog (TpuEff nD τ sig (Elt F) Λ₀ .tc) α} :
    (owns (c : Thread nD τ) (M.slice r hr) fullShare X : sProp 𝕄)
      ⊢ iprop((owns (c : Thread nD τ) (M.slice r hr) fullShare X -∗ wp frame (wpE (defs₀ (F := F)) 𝒱₀ c none) Set.univ (k X) Q)
        -∗ wp frame (wpE (defs₀ (F := F)) 𝒱₀ c none) Set.univ (.op (.load M r.toLoadRect hl) k) Q) := by
  unfold owns
  iintro ⟨%f, %hf, H⟩ Hk
  subst hf
  iapply (wp_load_rect 𝒱₀ (c : Thread nD τ) none Set.univ (m := M) (r := r) (hl := hl) (S := (M.slice r hr).view.set) (Finset.Subset.refl _)) $$ H
  iintro H
  iapply Hk
  iexists f
  isplitr; · ipureintro; rfl
  iexact H

/-- A store of `Y` to a rectangle owned at any contents leaves it owned at `Y`. -/
theorem part_store {α : Type} {Q : α → sProp 𝕄} {r : Rect s} {hr : ∀ a, r.stride a = 1} {X Y : r.shape.Idx → Elt F e} {hx : (M.access r).Stores Finset.univ}
    {hm : (Finset.univ : Finset r.shape.Idx) = Finset.univ ∨ ∀ a, r.stride a = 1}
    {k : PUnit → Prog (TpuEff nD τ sig (Elt F) Λ₀ .tc) α} :
    (owns (c : Thread nD τ) (M.slice r hr) fullShare X : sProp 𝕄)
      ⊢ iprop((owns (c : Thread nD τ) (M.slice r hr) fullShare Y -∗ wp frame (wpE (defs₀ (F := F)) 𝒱₀ c none) Set.univ (k ⟨⟩) Q)
        -∗ wp frame (wpE (defs₀ (F := F)) 𝒱₀ c none) Set.univ (.op (.store M r Y Finset.univ hx hm) k) Q) := by
  unfold owns
  iintro ⟨%f, -, H⟩ Hk
  iapply (wp_store 𝒱₀ (c : Thread nD τ) none Set.univ (m := M) (r := r) (w := Y) (Mk := Finset.univ) (hx := hx) (hm := hm) (S := (M.slice r hr).view.set) (Finset.Subset.refl _)) $$ H
  iintro H
  iapply Hk
  iexists _
  isplitr
  rotate_left
  · iexact H
  · ipureintro; exact View.read_write_univ _ _

/-- A load of a whole two-axis memref owned at `X` continues at `X`. -/
theorem full_load {α : Type} {Q : α → sProp 𝕄} {d : Fin 2 → ℕ} {M : Memref sig .tc .vmem ⟨2, d⟩ e} {inb} {hl} {X : (⟨2, d⟩ : Shape).Idx → Elt F e}
    {k : ((⟨2, d⟩ : Shape).Idx → Elt F e) → Prog (TpuEff nD τ sig (Elt F) Λ₀ .tc) α} :
    (owns (c : Thread nD τ) M fullShare X : sProp 𝕄)
      ⊢ iprop((owns (c : Thread nD τ) M fullShare X -∗ wp frame (wpE (defs₀ (F := F)) 𝒱₀ c none) Set.univ (k X) Q)
        -∗ wp frame (wpE (defs₀ (F := F)) 𝒱₀ c none) Set.univ
          (.op (.load M (Rect.unit (s := ⟨2, d⟩) ![0, 0] d inb).toLoadRect hl) k) Q) := by
  unfold owns
  iintro ⟨%f, %hf, H⟩ Hk
  have hv : M.view.readAt (Elt F) (Rect.unit (s := ⟨2, d⟩) ![0, 0] d inb).toLoadRect f = X := by
    rw [← hf]
    funext x
    refine congrArg (M.view.read (Elt F) f) (funext fun a => Fin.ext ?_)
    revert a
    refine Fin.forall_fin_two.mpr ⟨?_, ?_⟩ <;> simp [LoadRect.idx]
  iapply (wp_load 𝒱₀ (c : Thread nD τ) none Set.univ (m := M) (hl := hl) (S := M.view.set) (View.setOn_subset_set _ _)) $$ H
  iintro H
  rw [hv]
  iapply Hk
  iexists f
  isplitr; · ipureintro; exact hf
  iexact H

/-- A memref owned at a value, its elements named by the memref squeezed. -/
theorem owns_squeeze {s' : Shape} (M : Memref sig .tc .vmem s e) (h : s.Squeezes s') (X : s.Idx → Elt F e) :
    (owns (c : Thread nD τ) M fullShare X : sProp 𝕄)
      ⊢ iprop(∃ f, ⌜M.view.read (Elt F) f = X⌝ ∗ ((M.squeeze s' h).view.loc (c : Thread nD τ) ↦[(M.squeeze s' h).view.set]{fullShare} f)) := by
  rw [show (M.squeeze s' h).view.set = M.view.set from View.set_reshape _ _]
  unfold owns
  exact .rfl

/-- And back. -/
theorem squeeze_owns {s' : Shape} (M : Memref sig .tc .vmem s e) (h : s.Squeezes s') (f : M.view.ty.Contents (Elt F)) :
    ((M.squeeze s' h).view.loc (c : Thread nD τ) ↦[(M.squeeze s' h).view.set]{fullShare} f : sProp 𝕄)
      ⊢ owns (c : Thread nD τ) M fullShare (M.view.read (Elt F) f) := by
  rw [show (M.squeeze s' h).view.set = M.view.set from View.set_reshape _ _]
  unfold owns
  iintro H
  iexists f
  isplitr; · ipureintro; rfl
  iexact H

end Rules

/-! ## What a device holds -/

/-- The running third `j` at `X`. -/
def accAt (c : Dev nD) (j : Fin 3) (X : Vec F (SR j) .f32) : sProp 𝕄 := owns (c : Thread nD τ) (accSl j) fullShare X
/-- The result's third `j` at `X`. -/
def outAt (c : Dev nD) (j : Fin 3) (X : Vec F (SR j) .f32) : sProp 𝕄 := owns (c : Thread nD τ) (outSl j) fullShare X
/-- The two matrices of layer `l`. -/
def layAt (p : Inp F) (c : Dev nD) (l : ℕ) : sProp 𝕄 :=
  iprop(owns (c : Thread nD τ) (winM l) fullShare (p.w l c) ∗ owns (c : Thread nD τ) (woutM l) fullShare (p.u l c))
/-- The matrices of the three layers. -/
def wts (p : Inp F) (c : Dev nD) : sProp 𝕄 := bigSep Finset.univ fun l : Fin 3 => layAt p c l.val

/-- The cells' invariants and that every cell has reached its round. -/
def recs (p : Inp F) (K : Dev nD × (Unit ⊕ (Ex ⊕ Ex)) → ℕ) : sProp 𝕄 :=
  bigSep Finset.univ fun ck => iprop(cellInv ER (sched p) (K ck) (kcell ck) ∗ reached ER (kcell ck) 0)
/-- With the levels. -/
def ctx (p : Inp F) (K : Dev nD × (Unit ⊕ (Ex ⊕ Ex)) → ℕ) : sProp 𝕄 := iprop(recs p K ∗ levAts L lv)

/-- The record of the cells may be used as often as needed. -/
instance recs_persistent (p : Inp F) (K) : BI.Persistent (recs p K) := by unfold recs; infer_instance
/-- So may all that a step only reads. -/
instance ctx_persistent (p : Inp F) (K) : BI.Persistent (ctx p K) := by unfold ctx; infer_instance

/-- The record holds each cell's invariant, and that its round has begun. -/
theorem recs_at (p : Inp F) (K) (ck : Dev nD × (Unit ⊕ (Ex ⊕ Ex))) :
    recs p K ⊢ iprop(cellInv ER (sched p) (K ck) (kcell ck) ∗ reached ER (kcell ck) 0) := by
  unfold recs
  have e := bigSep_univ_split (Φ := fun ck => iprop(cellInv ER (sched p) (K ck) (kcell ck) ∗ reached ER (kcell ck) 0)) ck
  exact (Entails.of_eq e).trans BI.Laws.sep_elim_left

/-- A device's positions at an exchange's two cells and its credit at the receive's. -/
def own (c : Dev nD) (x : Ex) : sProp 𝕄 :=
  iprop(atPos ER (sendCell c x) 0 ∅ 0 ∗ atPos ER (recvCell c x) 0 ∅ 0 ∗ cred (tallyAt (recvCell c x) () (N x)))
/-- An exchange that has not started: its slot here, its partner's slot, and the right to pay for both cells. -/
def pend (c : Dev nD) (x : Ex) : sProp 𝕄 :=
  iprop(stageFree c x ∗ commFree (par x c) x ∗ dutyTok ER (sendCell c x) 0 0 ∗ dutyTok ER (recvCell (par x c) x) 0 0 ∗ own c x)
/-- An exchange under way. -/
def fly (c : Dev nD) (x : Ex) : sProp 𝕄 := iprop(own c x ∗ cred (tallyAt (sendCell c x) () (N x)))
/-- An exchange that has ended: both slots here, both cells at zero. -/
def fin (c : Dev nD) (x : Ex) : sProp 𝕄 :=
  iprop(stageFree c x ∗ commFree c x ∗ semVal (sendCell c x) 0 ∗ semVal (recvCell c x) 0)

/-! ## The steps -/

section Steps

variable (p : Inp F) (K : Dev nD × (Unit ⊕ (Ex ⊕ Ex)) → ℕ) (c : Dev nD)

/-- A layer on a third replaces it by its share. -/
theorem compute_wp (l : ℕ) (hl : l < 3) (j : Fin 3) (X : Vec F (SR j) .f32) (Q : PUnit → sProp 𝕄) :
    iprop(accAt c j X ∗ wts p c ∗ ((accAt c j (lay j X (p.w l c) (p.u l c)) ∗ wts p c) -∗ Q ⟨⟩))
      ⊢ wp frame (wpE (defs₀ (F := F)) 𝒱₀ c none) Set.univ (compute l j) Q := by
  unfold compute
  simp only [Prog.lift, Prog.bind_op, Prog.bind_ret]
  unfold accAt
  iintro ⟨Ha, Hw, Hk⟩
  unfold wts
  ihave Hw := (bigSep_univ_update (Φ := fun l : Fin 3 => layAt p c l.val) (Ψ := fun l : Fin 3 => layAt p c l.val) ⟨l, hl⟩ (fun _ _ => rfl)) $$ Hw
  unfold layAt
  icases Hw with ⟨⟨Hwi, Hwo⟩, Hw⟩
  iapply (part_load c) $$ Ha; iintro Ha
  iapply (full_load c (d := ![256, 512]) (M := winM l)) $$ Hwi; iintro Hwi
  iapply (full_load c (d := ![512, 256]) (M := woutM l)) $$ Hwo; iintro Hwo
  iapply (part_load c) $$ Ha; iintro Ha
  iapply (part_store c) $$ Ha; iintro Ha
  rw [wp_ret]; imodintro
  iapply Hk
  isplitl [Ha]; · iexact Ha
  iapply Hw
  isplitl [Hwi]; · iexact Hwi
  iexact Hwo

omit [FloatOps F] in
/-- What a slot reads after a transfer to it, squeezed, from a slot squeezed: what that slot reads. -/
theorem read_landed (x : Ex) (fd : (cc0_scratch1 : Ref sig .tc).ty.Contents (Elt F)) (fs : (cc0_scratch2 : Ref sig .tc).ty.Contents (Elt F)) :
    (commSl x).view.read (Elt F) ((commV x).view.write (Elt F) fd ((stageV x).view.read (Elt F) fs) Finset.univ)
      = (stageSl x).view.read (Elt F) fs := by
  funext y
  obtain ⟨z, rfl⟩ := (Shape.reshapeEquiv (SC_sq x.2).numel_eq).surjective y
  exact congrFun (View.read_write_univ (v := (commV x).view) fd ((stageV x).view.read (Elt F) fs)) z

/-- The transfer of exchange `x`, addressed to its partner, from the slot at what the device sends. -/
theorem wp_send_slot (x : Ex) (fs : Buf (Elt F) ((stageV x).view.loc (c : Thread nD τ)))
    (fd : Buf (Elt F) ((commV x).view.loc (par x c : Thread nD τ))) (hfs : (stageSl x).view.read (Elt F) fs = sent p c x) (W : Waits sig Unit)
    {hsc : (commV x : Memref sig (Dev.tc (par x c) : Thread nD τ).2.kind .vmem (SR x.2) .bf16).view.ref.isScScratch = false}
    {hsrc : (stageV x).view.WordExact} {hdst : (commV x).view.WordExact}
    {hsem : DmaTarget.Typed .vmem (.dma (recvS x)) (.remote (Dev.tc (par x c) : Thread nD τ) (commV x) (.dma (sendS x)) hsc)}
    {α : Type} {Q : α → sProp 𝕄} {k : PUnit → Prog (TpuEff nD τ sig (Elt F) Λ₀ .tc) α} :
    iprop(cellInv ER (sched p) (K (c, .inr (.inl x))) (sendCell c x) ∗ cellInv ER (sched p) (K (par x c, .inr (.inr x))) (recvCell (par x c) x)
        ∗ ((stageV x).view.loc (c : Thread nD τ) ↦[(stageV x).view.set]{fullShare} fs)
        ∗ ((commV x).view.loc (par x c : Thread nD τ) ↦[(commV x).view.set]{fullShare} fd)
        ∗ owes (c : Thread nD τ) (owed (num x).val c) W
        ∗ dutyTok ER (sendCell c x) 0 0 ∗ reached ER (sendCell c x) 0
        ∗ dutyTok ER (recvCell (par x c) x) 0 0 ∗ reached ER (recvCell (par x c) x) 0)
      ⊢ iprop(((cred (tallyAt (sendCell c x) () (N x)) ∗ owes (c : Thread nD τ) (owed ((num x).val + 1) c) W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (stageV x) (.remote (Dev.tc (par x c) : Thread nD τ) (commV x) (.dma (sendS x)) hsc) (.dma (recvS x)) hsrc hdst hsem) k) Q) := by
  have h1 : ((stageV x).view.loc (c : Thread nD τ) ↦[(stageV x).view.set]{fullShare} fs : sProp 𝕄) ⊢ (sched p).payload (sendCell c x) 0 0 := by
    rw [payload_send]; unfold stageFree
    refine (squeeze_owns c (stageSl x) (SC_sq x.2) fs).trans ?_
    iintro H; iexists _; iexact H
  have h2 : ((commV x).view.loc (par x c : Thread nD τ) ↦[(commV x).view.set]{fullShare}
      ((commV x).view.write (Elt F) fd ((stageV x).view.read (Elt F) fs) Finset.univ) : sProp 𝕄) ⊢ (sched p).payload (recvCell (par x c) x) 0 0 := by
    rw [payload_recv]; unfold commAt
    refine (squeeze_owns (par x c) (commSl x) (SC_sq x.2) _).trans (Entails.of_eq ?_)
    rw [read_landed, hfs, par_par]
  exact Rounds.wp_send_pointsTo 𝒱₀ ER (sched p) (c : Thread nD τ) none (κ₁ := K (c, .inr (.inl x))) (κ₂ := K (par x c, .inr (.inr x)))
      (r₁ := 0) (r₂ := 0) (d₁ := 0) (d₂ := 0) (fd := fd)
      (by rw [duties_send]; exact Finset.mem_singleton_self _) (by rw [duties_recv]; exact Finset.mem_singleton_self _)
      () () (N x) rfl (amount_send p c x 0) (amount_recv p (par x c) x 0) (owed ((num x).val + 1) c) (owed_num x c) (W := W)
      h1 h2

/-- An exchange starts: the third goes into its slot and the slot's copy to the partner. -/
theorem send_wp (x : Ex) (W : Waits sig Unit) (Q : PUnit → sProp 𝕄) :
    iprop(ctx p K ∗ accAt c x.2 (acc p x.2 x.1.val c) ∗ pend c x ∗ owes (c : Thread nD τ) (owed (num x).val c) W
        ∗ ((accAt c x.2 (acc p x.2 x.1.val c) ∗ fly c x ∗ owes (c : Thread nD τ) (owed ((num x).val + 1) c) W) -∗ Q ⟨⟩))
      ⊢ wp frame (wpE (defs₀ (F := F)) 𝒱₀ c none) Set.univ (send c x) Q := by
  rw [send, peer_eq]
  unfold sendTo
  simp only [Prog.lift, Prog.bind_op, Prog.bind_ret]
  unfold accAt pend ctx stageFree commFree
  iintro ⟨⟨#HR, #Hlev⟩, Ha, ⟨⟨%X, Hs⟩, ⟨%Y, Hd⟩, Ht1, Ht2, Hown⟩, HO, Hk⟩
  ihave #HS := (recs_at p K (c, .inr (.inl x))) $$ HR
  icases HS with ⟨HIs, Hrs⟩
  ihave #HV := (recs_at p K (par x c, .inr (.inr x))) $$ HR
  icases HV with ⟨HIv, Hrv⟩
  iapply (part_load c) $$ Ha; iintro Ha
  iapply (part_load c) $$ Hs; iintro Hs
  iapply (part_store c) $$ Hs; iintro Hs
  unfold commAt
  ihave Hs := (owns_squeeze c (stageSl x) (SC_sq x.2) (pack x.2 (acc p x.2 x.1.val c))) $$ Hs
  ihave Hd := (owns_squeeze (par x c) (commSl x) (SC_sq x.2) Y) $$ Hd
  icases Hs with ⟨%fs, %hfs, Hs⟩
  icases Hd with ⟨%fd, -, Hd⟩
  iapply (wp_send_slot p K c x fs fd hfs W) $$ [Hs Hd HO Ht1 Ht2]
  · isplitr; · iexact HIs
    isplitr; · iexact HIv
    isplitl [Hs]; · iexact Hs
    isplitl [Hd]; · iexact Hd
    isplitl [HO]; · iexact HO
    isplitl [Ht1]; · iexact Ht1
    isplitr; · iexact Hrs
    isplitl [Ht2]; · iexact Ht2
    iexact Hrv
  iintro ⟨Hc, HO⟩
  rw [wp_ret]; imodintro
  iapply Hk
  unfold fly
  isplitl [Ha]; · iexact Ha
  isplitr [HO]
  · isplitl [Hown]; · iexact Hown
    iexact Hc
  iexact HO

/-- An exchange ends: what the partner sent is in its slot here, and the slot it was sent from is back. -/
theorem await_wp (x : Ex) (k : ℕ) (hk : (num x).val < k) (W : Waits sig Unit) (Q : PUnit → sProp 𝕄) :
    iprop(ctx p K ∗ fly c x ∗ owes (c : Thread nD τ) (owed k c) W
        ∗ ((commAt c x (sent p (par x c) x) ∗ stageFree c x ∗ semVal (sendCell c x) 0 ∗ semVal (recvCell c x) 0
            ∗ ∃ W', owes (c : Thread nD τ) (owed k c) W') -∗ Q ⟨⟩))
      ⊢ wp frame (wpE (defs₀ (F := F)) 𝒱₀ c none) Set.univ (await x) Q := by
  unfold await
  simp only [Prog.lift, Prog.bind_op, Prog.bind_ret]
  unfold fly own ctx
  iintro ⟨⟨#HR, #Hlev⟩, ⟨⟨HatS, HatV, HcV⟩, HcS⟩, HO, Hk⟩
  ihave #HS := (recs_at p K (c, .inr (.inl x))) $$ HR
  icases HS with ⟨HIs, -⟩
  ihave #HV := (recs_at p K (c, .inr (.inr x))) $$ HR
  icases HV with ⟨HIv, -⟩
  iapply (Rounds.wp_wait_rest_token 𝒱₀ ER (sched p) (c : Thread nD τ) none (κ := K (c, .inr (.inl x))) (sm := .dma (sendS x))
      (wpE_waitDma2_eq 𝒱₀ (c : Thread nD τ) none Set.univ) (Set.mem_univ _) () (O := owed k c) (W := W) (R := 0) (m := 0) (T := ∅)
      (by rw [Nat.zero_add]; exact (expect_send p c x).symm)) $$ [HcS HO HatS]
  · isplitr; · iexact HIs
    isplitl [HcS]; · iexact HcS
    isplitl [HO]; · iexact HO
    isplitr; · iapply (mayWait_send c x k); iexact Hlev
    iexact HatS
  iintro ⟨HO, HatS, -, Hpay⟩
  ihave Hs := (Entails.of_eq (rest_send p c x)) $$ Hpay
  iapply (Rounds.wp_wait_rest_token 𝒱₀ ER (sched p) (c : Thread nD τ) none (κ := K (c, .inr (.inr x))) (sm := .dma (recvS x))
      (wpE_waitDma2_eq 𝒱₀ (c : Thread nD τ) none Set.univ) (Set.mem_univ _) () (O := owed k c) (W := insert (SemLoc.dma (sendS x), ()) W) (R := 0) (m := 0) (T := ∅)
      (by rw [Nat.zero_add]; exact (expect_recv p c x).symm)) $$ [HcV HO HatV]
  · isplitr; · iexact HIv
    isplitl [HcV]; · iexact HcV
    isplitl [HO]; · iexact HO
    isplitr; · iapply (mayWait_recv c x hk); iexact Hlev
    iexact HatV
  iintro ⟨HO, HatV, -, Hpay⟩
  ihave Hd := (Entails.of_eq (rest_recv p c x)) $$ Hpay
  imod (Rounds.cell_close ER (sched p) (Set.mem_univ (K (c, .inr (.inl x)))) (fun h => h) (R := 0 + 1) (duties_later p (sendCell c x))) $$ [HatS] with HzS
  · isplitr; · iexact HIs
    iexact HatS
  imod (Rounds.cell_close ER (sched p) (Set.mem_univ (K (c, .inr (.inr x)))) (fun h => h) (R := 0 + 1) (duties_later p (recvCell c x))) $$ [HatV] with HzV
  · isplitr; · iexact HIv
    iexact HatV
  rw [wp_ret]; imodintro
  iapply Hk
  isplitl [Hd]; · iexact Hd
  isplitl [Hs]; · iexact Hs
  isplitl [HzS]; · iexact HzS
  isplitl [HzV]; · iexact HzV
  iexists _; iexact HO

/-- What arrived is added to the third. -/
theorem accumulate_wp (x : Ex) (X : Vec F (SR x.2) .f32) (Y : Vec F (SC x.2) .bf16) (Q : PUnit → sProp 𝕄) :
    iprop(accAt c x.2 X ∗ commAt c x Y ∗ ((accAt c x.2 (plus x.2 X Y) ∗ commAt c x Y) -∗ Q ⟨⟩))
      ⊢ wp frame (wpE (defs₀ (F := F)) 𝒱₀ c none) Set.univ (accumulate x) Q := by
  unfold accumulate
  simp only [Prog.lift, Prog.bind_op, Prog.bind_ret]
  unfold accAt commAt
  iintro ⟨Ha, Hd, Hk⟩
  iapply (part_load c) $$ Ha; iintro Ha
  iapply (part_load c) $$ Hd; iintro Hd
  iapply (part_load c) $$ Ha; iintro Ha
  rw [shapeCast_self]
  iapply (part_store c) $$ Ha; iintro Ha
  rw [wp_ret]; imodintro
  iapply Hk
  isplitl [Ha]; · iexact Ha
  iexact Hd

/-- What arrived is added to the third, into the result. -/
theorem deliver_wp (x : Ex) (X : Vec F (SR x.2) .f32) (Y : Vec F (SC x.2) .bf16) (Q : PUnit → sProp 𝕄) :
    iprop(accAt c x.2 X ∗ commAt c x Y ∗ (∃ Z, outAt c x.2 Z) ∗ ((accAt c x.2 X ∗ commAt c x Y ∗ outAt c x.2 (plus x.2 X Y)) -∗ Q ⟨⟩))
      ⊢ wp frame (wpE (defs₀ (F := F)) 𝒱₀ c none) Set.univ (deliver x) Q := by
  unfold deliver
  simp only [Prog.lift, Prog.bind_op, Prog.bind_ret]
  unfold accAt commAt outAt
  iintro ⟨Ha, Hd, ⟨%Z, Ho⟩, Hk⟩
  iapply (part_load c) $$ Ha; iintro Ha
  iapply (part_load c) $$ Hd; iintro Hd
  iapply (part_load c) $$ Ho; iintro Ho
  iapply (part_store c) $$ Ho; iintro Ho
  rw [wp_ret]; imodintro
  iapply Hk
  isplitl [Ha]; · iexact Ha
  isplitl [Hd]; · iexact Hd
  iexact Ho

end Steps

end Cert.KernelIdeal.Own
-- ==== Proof.RoundsIdeal.lean ====
module

public import proofs.«01_k».proof.Proof.BodyIdeal

@[expose] public section

noncomputable section

namespace Cert.KernelIdeal.Own

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- Exchange `x` once the exchanges of its third before round `a` have ended and those before round `b` have started. -/
def phase (c : Dev nD) (x : Ex) (a b : ℕ) : sProp 𝕄 := if x.1.val < a then fin c x else if x.1.val < b then fly c x else pend c x
/-- All of a third's. -/
def phases (c : Dev nD) (j : Fin 3) (a b : ℕ) : sProp 𝕄 := bigSep Finset.univ fun t : Fin 9 => phase c (t, j) a b

/-- An exchange under way can end. -/
theorem phases_end (c : Dev nD) (j : Fin 3) (t : ℕ) (h : t < 9) :
    phases (F := F) c j t (t + 1) ⊢ iprop(fly c (⟨t, h⟩, j) ∗ (fin c (⟨t, h⟩, j) -∗ phases c j (t + 1) (t + 1))) := by
  have e := bigSep_univ_update (Φ := fun s : Fin 9 => phase (F := F) c (s, j) t (t + 1)) (Ψ := fun s : Fin 9 => phase (F := F) c (s, j) (t + 1) (t + 1))
    ⟨t, h⟩ (fun s hs => by
      have : s.val ≠ t := fun he => hs (Fin.ext he)
      unfold phase
      dsimp only
      by_cases h1 : s.val < t
      · rw [if_pos h1, if_pos (by omega)]
      · have h2 : ¬ s.val < t + 1 := by omega
        simp only [if_neg h1, if_neg h2])
  have e1 : phase (F := F) c (⟨t, h⟩, j) t (t + 1) = fly c (⟨t, h⟩, j) := by
    unfold phase; rw [if_neg (by dsimp only; omega), if_pos (by dsimp only; omega)]
  have e2 : phase (F := F) c (⟨t, h⟩, j) (t + 1) (t + 1) = fin c (⟨t, h⟩, j) := by
    unfold phase; rw [if_pos (by dsimp only; omega)]
  rw [e1, e2] at e
  exact e

/-- One that has not started can start. -/
theorem phases_start (c : Dev nD) (j : Fin 3) (t : ℕ) (h : t < 9) :
    phases (F := F) c j t t ⊢ iprop(pend c (⟨t, h⟩, j) ∗ (fly c (⟨t, h⟩, j) -∗ phases c j t (t + 1))) := by
  have e := bigSep_univ_update (Φ := fun s : Fin 9 => phase (F := F) c (s, j) t t) (Ψ := fun s : Fin 9 => phase (F := F) c (s, j) t (t + 1))
    ⟨t, h⟩ (fun s hs => by
      have : s.val ≠ t := fun he => hs (Fin.ext he)
      unfold phase
      dsimp only
      by_cases h1 : s.val < t
      · rw [if_pos h1, if_pos h1]
      · have h2 : ¬ s.val < t + 1 := by omega
        simp only [if_neg h1, if_neg h2])
  have e1 : phase (F := F) c (⟨t, h⟩, j) t t = pend c (⟨t, h⟩, j) := by
    unfold phase; rw [if_neg (by dsimp only; omega), if_neg (by dsimp only; omega)]
  have e2 : phase (F := F) c (⟨t, h⟩, j) t (t + 1) = fly c (⟨t, h⟩, j) := by
    unfold phase; rw [if_neg (by dsimp only; omega), if_pos (by dsimp only; omega)]
  rw [e1, e2] at e
  exact e

/-- The third `j` after `t` rounds: its running value, the result's third (the last sum after all nine), its exchanges. -/
def chain (p : Inp F) (c : Dev nD) (j : Fin 3) (t : ℕ) : sProp 𝕄 :=
  iprop(accAt c j (acc p j (min t 8) c) ∗ (if t = 9 then outAt c j (sum p j 8 c) else iprop(∃ Z, outAt c j Z)) ∗ phases c j t (t + 1))

/-- A third's state before a step: its running value, the result's third still free, and that step under way. -/
theorem chain_lt (p : Inp F) (c : Dev nD) (j : Fin 3) {t : ℕ} (h : t < 9) :
    chain p c j t = iprop(accAt c j (acc p j t c) ∗ (∃ Z, outAt c j Z) ∗ phases c j t (t + 1)) := by
  unfold chain; rw [if_neg (show ¬ t = 9 by omega), Nat.min_eq_left (show t ≤ 8 by omega)]
/-- A third's state at the end: the result's third is the last sum. -/
theorem chain_end (p : Inp F) (c : Dev nD) (j : Fin 3) :
    chain p c j 9 = iprop(accAt c j (acc p j 8 c) ∗ outAt c j (sum p j 8 c) ∗ phases c j 9 10) := rfl
/-- With every exchange of a third ended, none is left to start. -/
theorem phases_all (c : Dev nD) (j : Fin 3) (b : ℕ) :
    phases (F := F) c j 9 b = bigSep Finset.univ fun t : Fin 9 => fin c (t, j) :=
  bigSep_congr fun t _ => if_pos t.isLt

section Rounds

variable (p : Inp F) (K : Dev nD × (Unit ⊕ (Ex ⊕ Ex)) → ℕ) (c : Dev nD)

/-- A round takes its third from `t` rounds to `t + 1`. -/
theorem round_wp (t : ℕ) (j : Fin 3) (h : t < 9) (W : Waits sig Unit) (Q : PUnit → sProp 𝕄) :
    iprop(ctx p K ∗ chain p c j t ∗ wts p c ∗ owes (c : Thread nD τ) (owed (3 * t + j.val + 3) c) W
        ∗ ((chain p c j (t + 1) ∗ wts p c ∗ ∃ W', owes (c : Thread nD τ) (owed (3 * t + j.val + 4) c) W') -∗ Q ⟨⟩))
      ⊢ wp frame (wpE (defs₀ (F := F)) 𝒱₀ c none) Set.univ (round c t j h) Q := by
  unfold round
  rw [wp_bind]
  iintro ⟨#HC, Hch, Hw, HO, Hk⟩
  ihave Hch := (Entails.of_eq (chain_lt p c j h)) $$ Hch
  icases Hch with ⟨Ha, Ho, Hp⟩
  ihave Hp := (phases_end c j t h) $$ Hp
  icases Hp with ⟨Hf, Hp⟩
  iapply (await_wp p K c (⟨t, h⟩, j) (3 * t + j.val + 3) (by dsimp only [num]; omega) W)
  isplitr; · iexact HC
  isplitl [Hf]; · iexact Hf
  isplitl [HO]; · iexact HO
  iintro ⟨Hd, Hs, HzS, HzV, ⟨%W', HO⟩⟩
  by_cases h' : t + 1 < 9
  · rw [dif_pos h', wp_bind]
    iapply (accumulate_wp c (⟨t, h⟩, j) (acc p j t c) (sent p (par (⟨t, h⟩, j) c) (⟨t, h⟩, j)))
    isplitl [Ha]; · iexact Ha
    isplitl [Hd]; · iexact Hd
    iintro ⟨Ha, Hd⟩
    ihave Hp := Hp $$ [Hd Hs HzS HzV]
    · unfold fin commFree
      isplitl [Hs]; · iexact Hs
      isplitl [Hd]; · iexists _; iexact Hd
      isplitl [HzS] <;> iassumption
    ihave Hp := (phases_start c j (t + 1) h') $$ Hp
    icases Hp with ⟨Hf, Hp⟩
    rw [chain_lt p c j h']
    have hsend := fun W'' : Waits sig Unit => send_wp p K c (⟨t + 1, h'⟩, j) W'' Q
    have en : (num (⟨t + 1, h'⟩, j)).val = 3 * t + j.val + 3 := by dsimp only [num]; omega
    simp only [en] at hsend
    by_cases hm : (t + 1) % 3 = 0
    · have hb : ((t + 1) % 3 == 0) = true := by rw [hm]; rfl
      rw [hb]
      dsimp only [cond_true]
      rw [wp_bind]
      iapply (compute_wp p c ((t + 1) / 3) (by omega) j (sum p j t c))
      isplitl [Ha]; · iexact Ha
      isplitl [Hw]; · iexact Hw
      iintro ⟨Ha, Hw⟩
      have ea : acc p j (t + 1) c = lay j (sum p j t c) (p.w ((t + 1) / 3) c) (p.u ((t + 1) / 3) c) := by
        rw [acc, hb]; rfl
      rw [← ea]
      iapply (hsend W')
      isplitr; · iexact HC
      isplitl [Ha]; · iexact Ha
      isplitl [Hf]; · iexact Hf
      isplitl [HO]; · iexact HO
      iintro ⟨Ha, Hf, HO⟩
      iapply Hk
      isplitr [Hw HO]
      · isplitl [Ha]; · iexact Ha
        isplitl [Ho]; · iexact Ho
        iapply Hp; iexact Hf
      isplitl [Hw]; · iexact Hw
      iexists _; iexact HO
    · have hb : ((t + 1) % 3 == 0) = false := by rw [beq_eq_false_iff_ne]; exact hm
      rw [hb]
      dsimp only [cond_false]
      have ea : acc p j (t + 1) c = sum p j t c := by
        rw [acc, hb]; rfl
      have es : plus j (acc p j t c) (sent p (par (⟨t, h⟩, j) c) (⟨t, h⟩, j)) = acc p j (t + 1) c := ea.symm
      rw [es]
      iapply (hsend W')
      isplitr; · iexact HC
      isplitl [Ha]; · iexact Ha
      isplitl [Hf]; · iexact Hf
      isplitl [HO]; · iexact HO
      iintro ⟨Ha, Hf, HO⟩
      iapply Hk
      isplitr [Hw HO]
      · isplitl [Ha]; · iexact Ha
        isplitl [Ho]; · iexact Ho
        iapply Hp; iexact Hf
      isplitl [Hw]; · iexact Hw
      iexists _; iexact HO
  · obtain rfl : t = 8 := by omega
    rw [dif_neg h']
    iapply (deliver_wp c (⟨8, h⟩, j) (acc p j 8 c) (sent p (par (⟨8, h⟩, j) c) (⟨8, h⟩, j)))
    isplitl [Ha]; · iexact Ha
    isplitl [Hd]; · iexact Hd
    isplitl [Ho]; · iexact Ho
    iintro ⟨Ha, Hd, Ho⟩
    ihave Hp := Hp $$ [Hd Hs HzS HzV]
    · unfold fin commFree
      isplitl [Hs]; · iexact Hs
      isplitl [Hd]; · iexists _; iexact Hd
      isplitl [HzS] <;> iassumption
    rw [chain_end, phases_all]
    iapply Hk
    isplitr [Hw HO]
    · isplitl [Ha]; · iexact Ha
      isplitl [Ho]; · iexact Ho
      iapply (Entails.of_eq (phases_all c j (8 + 1)))
      iexact Hp
    isplitl [Hw]; · iexact Hw
    rw [owed_end c (show 27 ≤ 3 * 8 + j.val + 3 by omega), owed_end c (show 27 ≤ 3 * 8 + j.val + 4 by omega)]
    iexists _; iexact HO

/-- How many rounds of the third `j` are among the first `k`. -/
def cnt (k : ℕ) (j : Fin 3) : ℕ := (k + 2 - j.val) / 3

/-- The rounds from the `k`-th on end every third. -/
theorem rounds_wp (n : ℕ) : ∀ (k : ℕ) (_ : k + n = 27) (Q : PUnit → sProp 𝕄),
    iprop(ctx p K ∗ (bigSep Finset.univ fun j : Fin 3 => chain p c j (cnt k j)) ∗ wts p c ∗ (∃ W, owes (c : Thread nD τ) (owed (k + 3) c) W)
        ∗ (((bigSep Finset.univ fun j : Fin 3 => chain p c j 9) ∗ wts p c ∗ ∃ W, owes (c : Thread nD τ) 0 W) -∗ Q ⟨⟩))
      ⊢ wp frame (wpE (defs₀ (F := F)) 𝒱₀ c none) Set.univ (rounds c n k) Q := by
  induction n with
  | zero =>
    intro k hk Q
    obtain rfl : k = 27 := by omega
    unfold rounds
    rw [owed_end c (by omega)]
    simp only [Prog.pure_eq_ret]
    have e : (fun j : Fin 3 => chain p c j (cnt 27 j)) = fun j : Fin 3 => chain p c j 9 := funext fun j => by
      have : cnt 27 j = 9 := by unfold cnt; omega
      rw [this]
    rw [e]
    iintro ⟨-, Hch, Hw, HO, Hk⟩
    rw [wp_ret]; imodintro
    iapply Hk
    isplitl [Hch]; · iexact Hch
    isplitl [Hw] <;> iassumption
  | succ n ih =>
    intro k hk Q
    unfold rounds
    rw [dif_pos (show k < 27 by omega), wp_bind]
    have hj : k % 3 < 3 := Nat.mod_lt _ (by decide)
    iintro ⟨#HC, Hch, Hw, ⟨%W, HO⟩, Hk⟩
    ihave Hch := (bigSep_univ_update (Φ := fun j : Fin 3 => chain p c j (cnt k j)) (Ψ := fun j : Fin 3 => chain p c j (cnt (k + 1) j)) ⟨k % 3, hj⟩
      (fun j hne => by
        have h1 : j.val ≠ k % 3 := fun he => hne (Fin.ext he)
        have h2 := j.isLt
        have : cnt (k + 1) j = cnt k j := by unfold cnt; omega
        rw [this])) $$ Hch
    icases Hch with ⟨Hc, Hch⟩
    have e1 : cnt k ⟨k % 3, hj⟩ = k / 3 := by unfold cnt; dsimp only; omega
    have e2 : cnt (k + 1) ⟨k % 3, hj⟩ = k / 3 + 1 := by unfold cnt; dsimp only; omega
    have e3 : k + 3 = 3 * (k / 3) + k % 3 + 3 := by omega
    have e4 : k + 1 + 3 = 3 * (k / 3) + k % 3 + 4 := by omega
    rw [e1, e2, e3]
    have ht : k / 3 < 9 := by omega
    iapply (round_wp p K c (k / 3) ⟨k % 3, hj⟩ ht W)
    isplitr; · iexact HC
    isplitl [Hc]; · iexact Hc
    isplitl [Hw]; · iexact Hw
    isplitl [HO]; · iexact HO
    iintro ⟨Hc, Hw, HO⟩
    iapply (ih (k + 1) (by omega) Q)
    isplitr; · iexact HC
    isplitl [Hc Hch]; · iapply Hch; iexact Hc
    isplitl [Hw]; · iexact Hw
    isplitl [HO]; · rw [e4]; iexact HO
    iexact Hk

end Rounds

end Cert.KernelIdeal.Own
-- ==== Proof.PartsIdeal.lean ====
module

public import proofs.«01_k».proof.Proof.RoundsIdeal

@[expose] public section

noncomputable section

namespace Cert.KernelIdeal.Own

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-! ## A buffer as some of its parts and the rest -/

section Parts

variable (c : Dev nD) {s : Shape} {e : EltTy} (M : Memref sig .tc .vmem s e) {T : Type} [Fintype T] [DecidableEq T]
  (r : T → Rect s) (hr : ∀ t a, (r t).stride a = 1)

/-- The elements of a memref in one of the parts. -/
def within : Finset (Idx (M.view.loc (c : Thread nD τ))) := Finset.univ.biUnion fun t => (M.view.slice (r t)).set
/-- The elements in none. -/
def rest : sProp 𝕄 := iprop(∃ f, M.view.loc (c : Thread nD τ) ↦[M.view.set \ within c M r]{fullShare} f)

omit [DecidableEq T] in
/-- The chosen parts lie within the buffer. -/
theorem within_sub : within c M r ⊆ M.view.set := by
  intro i hi
  obtain ⟨t, -, hi⟩ := Finset.mem_biUnion.mp hi
  exact View.set_slice_subset _ _ hi

variable (hd : ∀ t t', t ≠ t' → Disjoint (r t).set (r t').set)
include hd

/-- Different parts share no element. -/
theorem slices_disj (t t' : T) (h : t ≠ t') : Disjoint (M.view.slice (r t)).set (M.view.slice (r t')).set := by
  rw [View.set_slice, View.set_slice]; exact (Finset.disjoint_map _).mpr (hd t t' h)

/-- A memref at some contents is its disjoint parts, each at some contents, and the rest. -/
theorem parts_split (f : Buf (Elt F) (M.view.loc (c : Thread nD τ))) :
    (M.view.loc (c : Thread nD τ) ↦[M.view.set]{fullShare} f : sProp 𝕄)
      ⊢ iprop((bigSep Finset.univ fun t => iprop(∃ X, owns (c : Thread nD τ) (M.slice (r t) (hr t)) fullShare X)) ∗ rest (F := F) c M r) := by
  have e := pointsTo_biUnion (Ix := Unit) (Name := ℕ) (U := UU) (Lvl := ℕ) (ℓ := M.view.loc (c : Thread nD τ)) (q := fullShare) (f := f) Finset.univ
    (fun t => (M.view.slice (r t)).set) (fun t _ t' _ h => slices_disj M r hd t t' h)
  have h1 (t : T) : (M.view.loc (c : Thread nD τ) ↦[(M.view.slice (r t)).set]{fullShare} f : sProp 𝕄)
      ⊢ iprop(∃ X, owns (c : Thread nD τ) (M.slice (r t) (hr t)) fullShare X) := by
    rw [← owns_slice_read (c : Thread nD τ) M fullShare (r t) (hr t) f]
    iintro H; iexists _; iexact H
  have h2 : (M.view.loc (c : Thread nD τ) ↦[within c M r]{fullShare} f : sProp 𝕄)
      ⊢ bigSep Finset.univ fun t => iprop(∃ X, owns (c : Thread nD τ) (M.slice (r t) (hr t)) fullShare X) :=
    (Entails.of_eq e).trans (bigSep_mono fun t _ => h1 t)
  iintro H
  ihave H := (pointsTo_split_subset (within_sub c M r)).1 $$ H
  icases H with ⟨H, Hr⟩
  isplitl [H]; · iapply h2; iexact H
  unfold rest
  iexists f; iexact Hr

/-- And they are the memref at some contents. -/
theorem parts_join :
    iprop((bigSep Finset.univ fun t => iprop(∃ X, owns (c : Thread nD τ) (M.slice (r t) (hr t)) fullShare X)) ∗ rest (F := F) c M r)
      ⊢ (iprop(∃ f, M.view.loc (c : Thread nD τ) ↦[M.view.set]{fullShare} f) : sProp 𝕄) := by
  have h1 (t : T) : iprop(∃ X, owns (c : Thread nD τ) (M.slice (r t) (hr t)) fullShare X)
      ⊢ (iprop(∃ f, M.view.loc (c : Thread nD τ) ↦[(M.view.slice (r t)).set]{fullShare} f) : sProp 𝕄) := by
    unfold owns
    iintro ⟨%X, %f, -, H⟩
    iexists f; iexact H
  unfold rest
  iintro ⟨H, ⟨%f₀, Hr⟩⟩
  have : Nonempty (Buf (Elt F) (M.view.loc (c : Thread nD τ))) := ⟨f₀⟩
  have h2 : (bigSep Finset.univ fun t => iprop(∃ X, owns (c : Thread nD τ) (M.slice (r t) (hr t)) fullShare X))
      ⊢ (iprop(∃ fs : T → Buf (Elt F) (M.view.loc (c : Thread nD τ)), bigSep Finset.univ fun t => (M.view.loc (c : Thread nD τ) ↦[(M.view.slice (r t)).set]{fullShare} fs t)) : sProp 𝕄) :=
    (bigSep_mono fun t _ => h1 t).trans
    (BI.bigSep_exists_pi Finset.univ (fun t (f : Buf (Elt F) (M.view.loc (c : Thread nD τ))) => (M.view.loc (c : Thread nD τ) ↦[(M.view.slice (r t)).set]{fullShare} f : sProp 𝕄)))
  ihave H := h2 $$ H
  icases H with ⟨%fs, H⟩
  ihave H := (pointsTo_biUnion_join Finset.univ (fun t => (M.view.slice (r t)).set) fs f₀ (fun t _ t' _ h => slices_disj M r hd t t' h)) $$ H
  icases H with ⟨%g, -, H⟩
  iexists _
  iapply (pointsTo_join_subset (within_sub c M r))
  isplitl [H]; · iexact H
  iexact Hr

end Parts

/-! ## Thirds and slots -/

/-- The thirds share no row. -/
theorem rows_disj (j j' : Fin 3) (h : j ≠ j') : Disjoint (rows j).set (rows j').set := by
  rw [Finset.disjoint_left]
  intro i hi hi'
  have h1 := Rect.mem_set_unit.mp hi (0 : Fin 2)
  have h2 := Rect.mem_set_unit.mp hi' (0 : Fin 2)
  have : ∀ (j j' : Fin 3), j ≠ j' → off j + sz j ≤ off j' ∨ off j' + sz j' ≤ off j := by decide
  have h1' : off j ≤ (i 0).val ∧ (i 0).val < off j + sz j := h1
  have h2' : off j' ≤ (i 0).val ∧ (i 0).val < off j' + sz j' := h2
  rcases this j j' h with h | h <;> omega

/-- The thirds are all rows. -/
theorem rows_cover : (Finset.univ : Finset (Fin 3)).biUnion (fun j => (rows j).set) = Finset.univ := by
  ext i
  simp only [Finset.mem_biUnion, Finset.mem_univ, true_and, iff_true]
  have hi : (i 0).val < 256 := (i 0).isLt
  have key : ∀ n < 256, ∃ j : Fin 3, off j ≤ n ∧ n < off j + sz j := by decide +kernel
  obtain ⟨j, h1, h2⟩ := key _ hi
  refine ⟨j, Rect.mem_set_unit.mpr fun a => ?_⟩
  revert a
  exact Fin.forall_fin_two.mpr ⟨⟨h1, h2⟩, ⟨Nat.zero_le _, by show (i 1).val < 0 + 256; have h : (i 1).val < 256 := (i 1).isLt; omega⟩⟩

/-- The slots share no element. -/
theorem slotR_disj (x y : Ex) (h : x ≠ y) : Disjoint (slotR x).set (slotR y).set := by
  rw [Finset.disjoint_left]
  intro i hi hi'
  have h1 : (num x).val ≤ (i 0).val ∧ (i 0).val < (num x).val + 1 := Rect.mem_set_unit.mp hi (0 : Fin 3)
  have h2 : (num y).val ≤ (i 0).val ∧ (i 0).val < (num y).val + 1 := Rect.mem_set_unit.mp hi' (0 : Fin 3)
  exact h (num_inj (Fin.ext (by omega)))

/-- The result on device `c`: its thirds are the last sums. -/
def outV (p : Inp F) (c : Dev nD) : Vec F S256x256 .f32 := Rect.glue rows rows_cover fun j => sum p j 8 c
/-- A third of the result is the last sum on that third. -/
theorem third_outV (p : Inp F) (c : Dev nD) (j : Fin 3) : third j (outV p c) = sum p j 8 c :=
  funext fun i => Rect.glue_emb rows rows_cover rows_disj (fun j => sum p j 8 c) j i

/-- The running value whole is its thirds. -/
theorem acc_thirds (c : Dev nD) (X : Vec F S256x256 .f32) :
    (owns (c : Thread nD τ) accM fullShare X : sProp 𝕄) ⊢ bigSep Finset.univ fun j => accAt c j (third j X) :=
  owns_rects (c : Thread nD τ) accM fullShare rows (fun _ _ => rfl) rows_disj rows_cover X

/-- A third at a value is it at some. -/
theorem outs (c : Dev nD) (j : Fin 3) (Z : Vec F (SR j) .f32) : (outAt c j Z : sProp 𝕄) ⊢ iprop(∃ Z, outAt c j Z) := by
  iintro H; iexists Z; iexact H

/-- The result whole, at some contents, is its thirds. -/
theorem out_thirds (c : Dev nD) (X : Vec F S256x256 .f32) :
    (owns (c : Thread nD τ) outM fullShare X : sProp 𝕄) ⊢ bigSep Finset.univ fun j => iprop(∃ Z, outAt c j Z) :=
  (owns_rects (c : Thread nD τ) outM fullShare rows (fun _ _ => rfl) rows_disj rows_cover X).trans
    (bigSep_mono fun j _ => outs c j (third j X))

/-- The result's thirds at the last sums are the result. -/
theorem out_whole (p : Inp F) (c : Dev nD) :
    (bigSep Finset.univ fun j => outAt c j (sum p j 8 c)) ⊢ (owns (c : Thread nD τ) outM fullShare (outV p c) : sProp 𝕄) := by
  have h (j : Fin 3) : (outAt c j (sum p j 8 c) : sProp 𝕄)
      ⊢ owns (c : Thread nD τ) (outM.slice (rows j) (fun _ => rfl)) fullShare (fun i => outV p c ((rows j).emb i)) := by
    rw [← third_outV]; exact Entails.of_eq rfl
  exact (bigSep_mono fun j _ => h j).trans
    (owns_of_rects (c : Thread nD τ) outM fullShare rows (fun _ _ => rfl) rows_disj rows_cover (outV p c))

end Cert.KernelIdeal.Own
-- ==== Proof.WholeIdeal.lean ====
module

public import proofs.«01_k».proof.Proof.PartsIdeal

@[expose] public section

noncomputable section

namespace Cert.KernelIdeal.Own

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## What a device starts from and ends with -/

section Ends

variable (c : Dev nD)

/-- Its positions at its cells. -/
def poss : sProp 𝕄 :=
  iprop(atPos ER (barCell c) 0 ∅ 0 ∗ bigSep Finset.univ fun x : Ex => iprop(atPos ER (sendCell c x) 0 ∅ 0 ∗ atPos ER (recvCell c x) 0 ∅ 0))
/-- The rights to pay: each partner's barrier a unit, and for each exchange both cells. -/
def payToks : sProp 𝕄 :=
  iprop((bigSep Finset.univ fun i : Fin 3 => dutyTok ER (barCell (flip i c)) 0 i)
    ∗ bigSep Finset.univ fun x : Ex => iprop(dutyTok ER (sendCell c x) 0 0 ∗ dutyTok ER (recvCell (par x c) x) 0 0))
/-- What its barrier and its receive cells have been promised. -/
def credits : sProp 𝕄 :=
  iprop(cred (tallyAt (barCell c) () 3) ∗ bigSep Finset.univ fun x : Ex => cred (tallyAt (recvCell c x) () (N x)))
/-- Its three scratch buffers, at some contents. -/
def raw : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f))
/-- Its cells at zero. -/
def zeros : sProp 𝕄 :=
  iprop(semVal (barCell c) 0 ∗ bigSep Finset.univ fun x : Ex => iprop(semVal (sendCell c x) 0 ∗ semVal (recvCell c x) 0))

/-- A whole buffer owned at some value is the buffer at some contents. -/
theorem whole_owns (b : Ref sig .tc) :
    (iprop(∃ f : Buf (Elt F) ((c : Thread nD τ).loc b), ((c : Thread nD τ).loc b) ↦{fullShare} f) : sProp 𝕄)
      ⊢ iprop(∃ X, owns (c : Thread nD τ) (Memref.whole b) fullShare X) := by
  unfold owns; simp only [Memref.view_whole, View.read_whole, View.set_whole]
  iintro ⟨%f, H⟩
  iexists f, f
  isplitr; · ipureintro; rfl
  iexact H
/-- A whole buffer owned at a value is the buffer at some contents. -/
theorem owns_whole_some (b : Ref sig .tc) (X) :
    (owns (c : Thread nD τ) (Memref.whole b) fullShare X : sProp 𝕄)
      ⊢ iprop(∃ f : Buf (Elt F) ((c : Thread nD τ).loc b), ((c : Thread nD τ).loc b) ↦{fullShare} f) := by
  unfold owns; simp only [Memref.view_whole, View.read_whole, View.set_whole]
  iintro ⟨%f, -, H⟩
  iexists f; iexact H

/-- The landing buffer is its slots and the rest. -/
theorem comm_split :
    (iprop(∃ f : Buf (Elt F) ((c : Thread nD τ).loc cc0_scratch1), ((c : Thread nD τ).loc cc0_scratch1) ↦{fullShare} f) : sProp 𝕄)
      ⊢ iprop((bigSep Finset.univ fun x : Ex => commFree c x) ∗ rest (F := F) c commM slotR) := by
  iintro ⟨%f, H⟩
  have e := parts_split (F := F) c commM slotR (fun _ _ => rfl) slotR_disj f
  rw [show commM.view.set = Finset.univ from View.set_whole _] at e
  iapply e
  iexact H
/-- Its slots and the rest are the landing buffer. -/
theorem comm_join :
    iprop((bigSep Finset.univ fun x : Ex => commFree c x) ∗ rest (F := F) c commM slotR)
      ⊢ (iprop(∃ f : Buf (Elt F) ((c : Thread nD τ).loc cc0_scratch1), ((c : Thread nD τ).loc cc0_scratch1) ↦{fullShare} f) : sProp 𝕄) := by
  have e := parts_join (F := F) c commM slotR (fun _ _ => rfl) slotR_disj
  rw [show commM.view.set = Finset.univ from View.set_whole _] at e
  exact e
/-- The staging buffer is its slots and the rest. -/
theorem stage_split :
    (iprop(∃ f : Buf (Elt F) ((c : Thread nD τ).loc cc0_scratch2), ((c : Thread nD τ).loc cc0_scratch2) ↦{fullShare} f) : sProp 𝕄)
      ⊢ iprop((bigSep Finset.univ fun x : Ex => stageFree c x) ∗ rest (F := F) c stageM slotR) := by
  iintro ⟨%f, H⟩
  have e := parts_split (F := F) c stageM slotR (fun _ _ => rfl) slotR_disj f
  rw [show stageM.view.set = Finset.univ from View.set_whole _] at e
  iapply e
  iexact H
/-- Its slots and the rest are the staging buffer. -/
theorem stage_join :
    iprop((bigSep Finset.univ fun x : Ex => stageFree c x) ∗ rest (F := F) c stageM slotR)
      ⊢ (iprop(∃ f : Buf (Elt F) ((c : Thread nD τ).loc cc0_scratch2), ((c : Thread nD τ).loc cc0_scratch2) ↦{fullShare} f) : sProp 𝕄) := by
  have e := parts_join (F := F) c stageM slotR (fun _ _ => rfl) slotR_disj
  rw [show stageM.view.set = Finset.univ from View.set_whole _] at e
  exact e

/-- Three things one by one. -/
theorem bigSep_fin3 (Φ : Fin 3 → sProp 𝕄) : bigSep Finset.univ Φ = iprop(Φ 0 ∗ Φ 1 ∗ Φ 2) :=
  bigSep_univ_eq_bigSepL [0, 1, 2] (by decide) (by decide) Φ

/-- The exchanges are the thirds' exchanges. -/
theorem by_thirds (Φ : Ex → sProp 𝕄) :
    bigSep Finset.univ Φ = bigSep Finset.univ fun j : Fin 3 => bigSep Finset.univ fun t : Fin 9 => Φ (t, j) := by
  rw [bigSep_univ_prod]
  exact bigSep_univ_comm (M := 𝕄) fun (t : Fin 9) (j : Fin 3) => Φ (t, j)

/-- With both slots, the rights, the positions and the credit of every exchange, none has started. -/
theorem pend_intro :
    iprop((bigSep Finset.univ fun x : Ex => stageFree c x) ∗ (bigSep Finset.univ fun x : Ex => commFree (par x c) x)
        ∗ (bigSep Finset.univ fun x : Ex => iprop(dutyTok ER (sendCell c x) 0 0 ∗ dutyTok ER (recvCell (par x c) x) 0 0))
        ∗ (bigSep Finset.univ fun x : Ex => iprop(atPos ER (sendCell c x) 0 ∅ 0 ∗ atPos ER (recvCell c x) 0 ∅ 0))
        ∗ bigSep Finset.univ fun x : Ex => cred (tallyAt (recvCell c x) () (N x)))
      ⊢ (bigSep Finset.univ fun j : Fin 3 => phases c j 0 0 : sProp 𝕄) := by
  have e : (bigSep Finset.univ fun j : Fin 3 => phases c j 0 0 : sProp 𝕄) = bigSep Finset.univ fun x : Ex => pend c x :=
    (bigSep_congr fun j _ => bigSep_congr fun t _ => by unfold phase; rw [if_neg (Nat.not_lt_zero _), if_neg (Nat.not_lt_zero _)]).trans
      (by_thirds fun x => pend (F := F) c x).symm
  rw [e, ← bigSep_sep', ← bigSep_sep', ← bigSep_sep', ← bigSep_sep']
  refine bigSep_mono fun x _ => ?_
  show iprop(stageFree c x ∗ commFree (par x c) x ∗ (dutyTok ER (sendCell c x) 0 0 ∗ dutyTok ER (recvCell (par x c) x) 0 0)
      ∗ (atPos ER (sendCell c x) 0 ∅ 0 ∗ atPos ER (recvCell c x) 0 ∅ 0) ∗ cred (tallyAt (recvCell c x) () (N x))) ⊢ (pend c x : sProp 𝕄)
  unfold pend own
  iintro ⟨H1, H2, ⟨H3, H4⟩, ⟨H5, H6⟩, H7⟩
  isplitl [H1]; · iexact H1
  isplitl [H2]; · iexact H2
  isplitl [H3]; · iexact H3
  isplitl [H4]; · iexact H4
  isplitl [H5]; · iexact H5
  isplitl [H6]; · iexact H6
  iexact H7

/-- With every exchange ended, the slots are back and the cells at zero. -/
theorem fin_elim (b : ℕ) :
    (bigSep Finset.univ fun j : Fin 3 => phases c j 9 b : sProp 𝕄)
      ⊢ iprop((bigSep Finset.univ fun x : Ex => stageFree c x) ∗ (bigSep Finset.univ fun x : Ex => commFree c x)
        ∗ bigSep Finset.univ fun x : Ex => iprop(semVal (sendCell c x) 0 ∗ semVal (recvCell c x) 0)) := by
  have e : (bigSep Finset.univ fun j : Fin 3 => phases c j 9 b : sProp 𝕄) = bigSep Finset.univ fun x : Ex => fin c x :=
    (bigSep_congr fun j _ => phases_all c j b).trans (by_thirds fun x => fin (F := F) c x).symm
  rw [e, ← bigSep_sep', ← bigSep_sep']
  exact bigSep_mono fun x _ => BI.Entails.refl _

end Ends

/-! ## The body -/

section Whole

variable (p : Inp F) (K : Dev nD × (Unit ⊕ (Ex ⊕ Ex)) → ℕ) (c : Dev nD)

/-- The offsets of a whole buffer are zero. -/
theorem offs0 : (![0, 0] : Fin 2 → Nat) = fun _ => 0 := funext fun a => by fin_cases a <;> rfl

/-- The running value's thirds are the buffer at some contents. -/
theorem acc_join :
    (bigSep Finset.univ fun j : Fin 3 => accAt c j (acc p j 8 c) : sProp 𝕄)
      ⊢ iprop(∃ f : Buf (Elt F) ((c : Thread nD τ).loc cc0_scratch0), ((c : Thread nD τ).loc cc0_scratch0) ↦{fullShare} f) := by
  have h (j : Fin 3) : (accAt c j (acc p j 8 c) : sProp 𝕄)
      ⊢ owns (c : Thread nD τ) (accM.slice (rows j) (fun _ => rfl)) fullShare (fun i => Rect.glue rows rows_cover (fun j => acc p j 8 c) ((rows j).emb i)) := by
    rw [show (fun i => Rect.glue rows rows_cover (fun j => acc p j 8 c) ((rows j).emb i)) = acc p j 8 c from
      funext fun i => Rect.glue_emb rows rows_cover rows_disj (fun j => acc p j 8 c) j i]
    exact Entails.of_eq rfl
  exact ((bigSep_mono fun j _ => h j).trans
    (owns_of_rects (c : Thread nD τ) accM fullShare rows (fun _ _ => rfl) rows_disj rows_cover _)).trans (owns_whole_some c cc0_scratch0 _)

/-- A store of the whole running value leaves it at what is stored. -/
theorem acc_store {α : Type} {Q : α → sProp 𝕄} {X Y : Vec F S256x256 .f32} {inb} {hx} {hm}
    {k : PUnit → Prog (TpuEff nD τ sig (Elt F) Λ₀ .tc) α} :
    (owns (c : Thread nD τ) accM fullShare X : sProp 𝕄)
      ⊢ iprop((owns (c : Thread nD τ) accM fullShare Y -∗ wp frame (wpE (defs₀ (F := F)) 𝒱₀ c none) Set.univ (k ⟨⟩) Q)
        -∗ wp frame (wpE (defs₀ (F := F)) 𝒱₀ c none) Set.univ
          (.op (.store accM (Rect.unit (s := S256x256) ![0, 0] S256x256.size inb) Y Finset.univ hx hm) k) Q) := by
  unfold owns; simp only [Memref.view_whole, View.read_whole, View.set_whole]
  iintro ⟨%f, -, H⟩ Hk
  iapply (wp_store 𝒱₀ (c : Thread nD τ) none Set.univ (m := accM) (r := Rect.unit (s := S256x256) ![0, 0] S256x256.size inb) (hx := hx) (hm := hm)
    (w := Y) (Mk := Finset.univ) (S := Finset.univ) (Finset.subset_univ _)) $$ H
  iintro H
  iapply Hk
  iexists _
  isplitr
  rotate_left
  · iexact H
  · ipureintro; exact Memref.write_access_unit_zero_univ (Elt F) cc0_scratch0 offs0 _ f Y

/-- The first exchange of a third starts. -/
theorem first_wp (j : Fin 3) (Q : PUnit → sProp 𝕄) :
    iprop(ctx p K ∗ accAt c j (acc p j 0 c) ∗ (∃ Z, outAt c j Z) ∗ phases c j 0 0 ∗ (∃ W, owes (c : Thread nD τ) (owed j.val c) W)
        ∗ ((chain p c j 0 ∗ ∃ W, owes (c : Thread nD τ) (owed (j.val + 1) c) W) -∗ Q ⟨⟩))
      ⊢ wp frame (wpE (defs₀ (F := F)) 𝒱₀ c none) Set.univ (send c (0, j)) Q := by
  have hn : (num ((0, j) : Ex)).val = j.val := by show 3 * 0 + j.val = j.val; omega
  have e := fun W => send_wp p K c (0, j) W Q
  rw [hn] at e
  rw [chain_lt p c j (show 0 < 9 by decide)]
  iintro ⟨#HC, Ha, Ho, Hp, ⟨%W, HO⟩, Hk⟩
  ihave Hp := (phases_start c j 0 (by decide)) $$ Hp
  icases Hp with ⟨Hp, Hf⟩
  iapply (e W)
  isplitr; · iexact HC
  isplitl [Ha]; · iexact Ha
  isplitl [Hp]; · iexact Hp
  isplitl [HO]; · iexact HO
  iintro ⟨Ha, Hfl, HO⟩
  iapply Hk
  isplitr [HO]
  · isplitl [Ha]; · iexact Ha
    isplitl [Ho]; · iexact Ho
    iapply Hf; iexact Hfl
  iexists _; iexact HO

/-- The signal to the partner across `i`, handing it its slots here. -/
theorem signal_wp (i : Fin 3) (O : CellTallies nD τ sig Unit) (W : Waits sig Unit) {α : Type} {Q : α → sProp 𝕄}
    {k : PUnit → Prog (TpuEff nD τ sig (Elt F) Λ₀ .tc) α} :
    iprop(ctx p K ∗ owes (c : Thread nD τ) (O + tallyAt (barCell (flip i c)) () 1) W ∗ dutyTok ER (barCell (flip i c)) 0 i ∗ barPay (flip i c) i)
      ⊢ iprop((owes (c : Thread nD τ) O W -∗ wp frame (wpE (defs₀ (F := F)) 𝒱₀ c none) Set.univ (k ⟨⟩) Q)
        -∗ wp frame (wpE (defs₀ (F := F)) 𝒱₀ c none) Set.univ (.op (.semSignal (flip i c : Thread nD τ) barS 1) k) Q) := by
  unfold ctx
  iintro ⟨⟨#HR, -⟩, HO, Ht, Hp⟩ Hk
  ihave #HB := (recs_at p K (flip i c, .inl ())) $$ HR
  icases HB with ⟨HI, Hr⟩
  iapply (Rounds.wp_signal 𝒱₀ ER (sched p) (c : Thread nD τ) none (dst := (flip i c : Thread nD τ)) (κ := K (flip i c, .inl ()))
      (r := 0) (d := i) (by rw [duties_bar]; exact Finset.mem_univ _) (amount_bar p (flip i c) i) () O rfl) $$ [HO Ht Hp]
  · isplitr; · iexact HI
    isplitl [HO]; · iexact HO
    isplitl [Ht]; · iexact Ht
    isplitl [Hp]; · rw [payload_bar]; iexact Hp
    iexact Hr
  iexact Hk

/-- The three signals. -/
theorem signals_wp (W : Waits sig Unit) {α : Type} {Q : α → sProp 𝕄} {k : PUnit → Prog (TpuEff nD τ sig (Elt F) Λ₀ .tc) α} :
    iprop(ctx p K ∗ owes (c : Thread nD τ) (O₀ c) W ∗ (bigSep Finset.univ fun i : Fin 3 => dutyTok ER (barCell (flip i c)) 0 i)
        ∗ bigSep Finset.univ fun x : Ex => commFree c x)
      ⊢ iprop((owes (c : Thread nD τ) (owed 0 c) W -∗ wp frame (wpE (defs₀ (F := F)) 𝒱₀ c none) Set.univ (k ⟨⟩) Q)
        -∗ wp frame (wpE (defs₀ (F := F)) 𝒱₀ c none) Set.univ (.op (.semSignal (flip 0 c : Thread nD τ) barS 1) fun _ =>
            .op (.semSignal (flip 1 c : Thread nD τ) barS 1) fun _ => .op (.semSignal (flip 2 c : Thread nD τ) barS 1) k) Q) := by
  rw [← deal_bar, bigSep_fin3, bigSep_fin3]
  unfold O₀
  iintro ⟨#HC, HO, ⟨Ht0, Ht1, Ht2⟩, Hp0, Hp1, Hp2⟩ Hk
  iapply (signal_wp p K c 0 _ W) $$ [HO Ht0 Hp0]
  · isplitr; · iexact HC
    isplitl [HO]; · iexact HO
    isplitl [Ht0]; · iexact Ht0
    iexact Hp0
  iintro HO
  iapply (signal_wp p K c 1 _ W) $$ [HO Ht1 Hp1]
  · isplitr; · iexact HC
    isplitl [HO]; · iexact HO
    isplitl [Ht1]; · iexact Ht1
    iexact Hp1
  iintro HO
  iapply (signal_wp p K c 2 _ W) $$ [HO Ht2 Hp2]
  · isplitr; · iexact HC
    isplitl [HO]; · iexact HO
    isplitl [Ht2]; · iexact Ht2
    iexact Hp2
  iexact Hk

/-- The first layer on the input's thirds. -/
theorem layers_wp (Q : PUnit → sProp 𝕄) {k : PUnit → Prog (TpuEff nD τ sig (Elt F) Λ₀ .tc) PUnit} :
    iprop(owns (c : Thread nD τ) accM fullShare (p.x c) ∗ wts p c
        ∗ (((bigSep Finset.univ fun j : Fin 3 => accAt c j (acc p j 0 c)) ∗ wts p c) -∗ wp frame (wpE (defs₀ (F := F)) 𝒱₀ c none) Set.univ (k ⟨⟩) Q))
      ⊢ wp frame (wpE (defs₀ (F := F)) 𝒱₀ c none) Set.univ
          (compute 0 0 >>= fun _ => compute 0 1 >>= fun _ => compute 0 2 >>= k) Q := by
  rw [bigSep_fin3]
  iintro ⟨Ha, Hw, Hk⟩
  ihave Ha := ((acc_thirds c (p.x c)).trans (Entails.of_eq (bigSep_fin3 _))) $$ Ha
  icases Ha with ⟨H0, H1, H2⟩
  rw [wp_bind]
  iapply (compute_wp p c 0 (by decide) 0 (third 0 (p.x c)))
  isplitl [H0]; · iexact H0
  isplitl [Hw]; · iexact Hw
  iintro ⟨H0, Hw⟩
  rw [wp_bind]
  iapply (compute_wp p c 0 (by decide) 1 (third 1 (p.x c)))
  isplitl [H1]; · iexact H1
  isplitl [Hw]; · iexact Hw
  iintro ⟨H1, Hw⟩
  rw [wp_bind]
  iapply (compute_wp p c 0 (by decide) 2 (third 2 (p.x c)))
  isplitl [H2]; · iexact H2
  isplitl [Hw]; · iexact Hw
  iintro ⟨H2, Hw⟩
  iapply Hk
  isplitr [Hw]
  · isplitl [H0]; · iexact H0
    isplitl [H1]; · iexact H1
    iexact H2
  iexact Hw

/-- The first exchanges and the rounds. -/
theorem exchanges_wp (Q : PUnit → sProp 𝕄) :
    iprop(ctx p K ∗ (bigSep Finset.univ fun j : Fin 3 => accAt c j (acc p j 0 c)) ∗ (bigSep Finset.univ fun j : Fin 3 => iprop(∃ Z, outAt c j Z))
        ∗ (bigSep Finset.univ fun j : Fin 3 => phases c j 0 0) ∗ wts p c ∗ (∃ W, owes (c : Thread nD τ) (owed 0 c) W)
        ∗ (((bigSep Finset.univ fun j : Fin 3 => chain p c j 9) ∗ wts p c ∗ ∃ W, owes (c : Thread nD τ) 0 W) -∗ Q ⟨⟩))
      ⊢ wp frame (wpE (defs₀ (F := F)) 𝒱₀ c none) Set.univ
          (send c (0, 0) >>= fun _ => send c (0, 1) >>= fun _ => send c (0, 2) >>= fun _ => rounds c 27 0) Q := by
  rw [bigSep_fin3, bigSep_fin3, bigSep_fin3]
  iintro ⟨#HC, ⟨Ha0, Ha1, Ha2⟩, ⟨Ho0, Ho1, Ho2⟩, ⟨Hp0, Hp1, Hp2⟩, Hw, HO, Hk⟩
  rw [wp_bind]
  iapply (first_wp p K c 0)
  isplitr; · iexact HC
  isplitl [Ha0]; · iexact Ha0
  isplitl [Ho0]; · iexact Ho0
  isplitl [Hp0]; · iexact Hp0
  isplitl [HO]; · iexact HO
  iintro ⟨H0, HO⟩
  rw [wp_bind]
  iapply (first_wp p K c 1)
  isplitr; · iexact HC
  isplitl [Ha1]; · iexact Ha1
  isplitl [Ho1]; · iexact Ho1
  isplitl [Hp1]; · iexact Hp1
  isplitl [HO]; · iexact HO
  iintro ⟨H1, HO⟩
  rw [wp_bind]
  iapply (first_wp p K c 2)
  isplitr; · iexact HC
  isplitl [Ha2]; · iexact Ha2
  isplitl [Ho2]; · iexact Ho2
  isplitl [Hp2]; · iexact Hp2
  isplitl [HO]; · iexact HO
  iintro ⟨H2, HO⟩
  iapply (rounds_wp p K c 27 0 rfl)
  isplitr; · iexact HC
  isplitl [H0 H1 H2]
  · rw [bigSep_fin3]
    isplitl [H0]; · iexact H0
    isplitl [H1]; · iexact H1
    iexact H2
  isplitl [Hw]; · iexact Hw
  isplitl [HO]; · iexact HO
  iexact Hk

/-- The body, from a device's start to its end: the result is the last sums. -/
theorem body_wp (W : Waits sig Unit) (Q : PUnit → sProp 𝕄) :
    iprop(ctx p K ∗ poss c ∗ payToks c ∗ credits c ∗ raw c ∗ owes (c : Thread nD τ) (O₀ c) W ∗ owns (c : Thread nD τ) xM fullShare (p.x c)
        ∗ (∃ Z, owns (c : Thread nD τ) outM fullShare Z) ∗ wts p c
        ∗ ((raw c ∗ zeros c ∗ (∃ W, owes (c : Thread nD τ) 0 W) ∗ owns (c : Thread nD τ) xM fullShare (p.x c)
            ∗ owns (c : Thread nD τ) outM fullShare (outV p c) ∗ wts p c) -∗ Q ⟨⟩))
      ⊢ wp frame (wpE (defs₀ (F := F)) 𝒱₀ c none) Set.univ body Q := by
  unfold body
  simp only [semSignalWord, semWaitWord, Prog.lift, Prog.bind_op, Prog.bind_ret, wp_deviceId, dev1_eq, dev2_eq, dev3_eq, shapeCast_self]
  unfold poss payToks credits raw
  iintro ⟨#HC, ⟨HatB, Hat⟩, ⟨HtB, Ht⟩, ⟨HcB, Hc⟩, ⟨Hacc, Hcomm, Hstage⟩, HO, Hx, ⟨%Z, Hout⟩, Hw, Hk⟩
  ihave #HR := (show ctx p K ⊢ _ from BI.Entails.refl _) $$ HC
  ihave Hcomm := (comm_split c) $$ Hcomm
  icases Hcomm with ⟨Hcomm, Hcr⟩
  ihave Hstage := (stage_split c) $$ Hstage
  icases Hstage with ⟨Hstage, Hsr⟩
  ihave Hacc := (whole_owns c cc0_scratch0) $$ Hacc
  icases Hacc with ⟨%X, Hacc⟩
  iapply (signals_wp p K c W) $$ [HO HtB Hcomm]
  · isplitr; · iexact HC
    isplitl [HO]; · iexact HO
    isplitl [HtB]; · iexact HtB
    iexact Hcomm
  iintro HO
  iapply (full_load c (d := ![256, 256]) (M := xM)) $$ Hx; iintro Hx
  iapply (full_load c (d := ![256, 256]) (M := accM)) $$ Hacc; iintro Hacc

  iapply (acc_store c) $$ Hacc; iintro Hacc
  ihave Hacc := (Entails.of_eq (congrArg (fun Y => (owns (c : Thread nD τ) accM fullShare Y : sProp 𝕄)) (shapeCast_self (p.x c) shapeCasts_S256x256_S256x256))) $$ Hacc
  iapply (layers_wp p c)
  isplitl [Hacc]; · iexact Hacc
  isplitl [Hw]; · iexact Hw
  iintro ⟨Hacc, Hw⟩
  unfold ctx
  icases HC with ⟨#HRecs, #Hlev⟩
  ihave #HB := (recs_at p K (c, .inl ())) $$ HRecs
  icases HB with ⟨HI, -⟩
  iapply (Rounds.wp_wait_rest_token 𝒱₀ ER (sched p) (c : Thread nD τ) none (κ := K (c, .inl ()))
      (wpE_semWait_eq 𝒱₀ (c : Thread nD τ) none Set.univ) (Set.mem_univ _) () (O := owed 0 c) (W := W) (R := 0) (m := 0) (T := ∅)
      (by rw [expect_bar]; decide)) $$ [HcB HO HatB]
  · isplitr; · iexact HI
    isplitl [HcB]; · iexact HcB
    isplitl [HO]; · iexact HO
    isplitr; · iapply (mayWait_bar c); iexact Hlev
    iexact HatB
  iintro ⟨HO, HatB, -, Hpay⟩
  ihave Hpeer := (Entails.of_eq (rest_bar p c)) $$ Hpay
  imod (Rounds.cell_close ER (sched p) (Set.mem_univ (K (c, .inl ()))) (fun h => h) (R := 0 + 1) (duties_later p (barCell c))) $$ [HatB] with HzB
  · isplitr; · iexact HI
    iexact HatB
  ihave Hph := (pend_intro c) $$ [Hstage Hpeer Ht Hat Hc]
  · isplitl [Hstage]; · iexact Hstage
    isplitl [Hpeer]; · iexact Hpeer
    isplitl [Ht]; · iexact Ht
    isplitl [Hat]; · iexact Hat
    iexact Hc
  ihave Hout := (out_thirds c Z) $$ Hout
  iapply (exchanges_wp p K c)
  isplitr; · unfold ctx; iexact HR
  isplitl [Hacc]; · iexact Hacc
  isplitl [Hout]; · iexact Hout
  isplitl [Hph]; · iexact Hph
  isplitl [Hw]; · iexact Hw
  isplitl [HO]; · iexists _; iexact HO
  iintro ⟨Hch, Hw, HO⟩
  iapply Hk
  ihave Hch := (Entails.of_eq ((bigSep_congr fun j _ => chain_end p c j).trans ((bigSep_sep' Finset.univ (fun j : Fin 3 => accAt c j (acc p j 8 c)) _).trans
    (congrArg _ (bigSep_sep' Finset.univ (fun j : Fin 3 => outAt c j (sum p j 8 c)) fun j => phases c j 9 10))))) $$ Hch
  icases Hch with ⟨Hacc, Hout, Hph⟩
  ihave Hph := (fin_elim c 10) $$ Hph
  icases Hph with ⟨Hstage, Hcomm, Hz⟩
  isplitl [Hacc Hcomm Hcr Hstage Hsr]
  · isplitl [Hacc]; · iapply (acc_join p c); iexact Hacc
    isplitl [Hcomm Hcr]
    · iapply (comm_join c)
      isplitl [Hcomm]; · iexact Hcomm
      iexact Hcr
    iapply (stage_join c)
    isplitl [Hstage]; · iexact Hstage
    iexact Hsr
  isplitl [HzB Hz]
  · unfold zeros
    isplitl [HzB]; · iexact HzB
    iexact Hz
  isplitl [HO]; · iexact HO
  isplitl [Hx]; · iexact Hx
  isplitl [Hout]; · iapply (out_whole p c); iexact Hout
  iexact Hw

end Whole

end Cert.KernelIdeal.Own
-- ==== Proof.GhostIdeal.lean ====
module

public import proofs.«01_k».proof.Proof.WholeIdeal

@[expose] public section

noncomputable section

namespace Cert.KernelIdeal.Own

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The cells and the rights, as they are made -/

/-- Every cell: a device, and its barrier, a send or a receive cell. -/
abbrev Cells : Type := Dev nD × (Unit ⊕ (Ex ⊕ Ex))
/-- Every right to pay: a device, and one of its barrier units, a send or a receive. -/
abbrev Toks : Type := Dev nD × (Fin 3 ⊕ (Ex ⊕ Ex))

/-- A device's cells are distinct semaphores. -/
theorem csem_injective : Function.Injective csem := by
  have hs (x y : Ex) (h : sendS x = sendS y) : x = y := by
    have := congrArg decode h; rw [decode_send, decode_send] at this; exact Sum.inl.inj (Option.some.inj this)
  have hr (x y : Ex) (h : recvS x = recvS y) : x = y := by
    have := congrArg decode h; rw [decode_recv, decode_recv] at this; exact Sum.inr.inj (Option.some.inj this)
  have hsr (x y : Ex) (h : sendS x = recvS y) : False := by
    have := congrArg decode h; rw [decode_send, decode_recv] at this; cases Option.some.inj this
  rintro (⟨⟩ | x | x) (⟨⟩ | y | y) h
  · rfl
  · cases h
  · cases h
  · cases h
  · rw [hs x y (SemLoc.dma.inj h)]
  · exact (hsr x y (SemLoc.dma.inj h)).elim
  · cases h
  · exact (hsr y x (SemLoc.dma.inj h).symm).elim
  · rw [hr x y (SemLoc.dma.inj h)]

/-- All cells are distinct. -/
theorem kcell_injective : Function.Injective (kcell : Cells → GSem nD τ sig) := by
  rintro ⟨c, k⟩ ⟨c', k'⟩ h
  obtain rfl : c = c' := congrArg (fun g : GSem nD τ sig => g.1.1) h
  rw [csem_injective (show csem k = csem k' from congrArg Prod.snd h)]

/-- The set of all cells. -/
def allCells : Finset (GSem nD τ sig) := Finset.univ.map ⟨kcell, kcell_injective⟩

/-- A cell's duties. -/
abbrev tokOf (ck : Toks) : GSem nD τ sig × ℕ × Fin 3 :=
  Sum.elim (fun i => (barCell ck.1, 0, i)) (Sum.elim (fun x => (sendCell ck.1 x, 0, 0)) fun x => (recvCell ck.1 x, 0, 0)) ck.2
/-- All rights to pay are distinct. -/
theorem tokOf_injective : Function.Injective tokOf := by
  have key (c c' : Dev nD) (k k' : Fin 3 ⊕ (Ex ⊕ Ex)) (h : tokOf (c, k) = tokOf (c', k')) :
      (c, (Sum.map (fun _ => ()) id k : Unit ⊕ (Ex ⊕ Ex))) = (c', Sum.map (fun _ => ()) id k') := by
    have e (c : Dev nD) (k : Fin 3 ⊕ (Ex ⊕ Ex)) : (tokOf (c, k)).1 = kcell (c, Sum.map (fun _ => ()) id k) := by
      rcases k with i | x | x <;> rfl
    exact kcell_injective (by rw [← e, ← e, h])
  rintro ⟨c, k⟩ ⟨c', k'⟩ h
  have hk := key c c' k k' h
  obtain rfl : c = c' := congrArg Prod.fst hk
  have h2 := congrArg Prod.snd hk
  rcases k with i | x <;> rcases k' with i' | x'
  · have := congrArg (fun y : GSem nD τ sig × ℕ × Fin 3 => y.2.2) h
    exact congrArg (fun i => (c, Sum.inl i)) this
  · cases h2
  · cases h2
  · rw [show x = x' from Sum.inr.inj h2]

/-- The set of all rights to pay. -/
def allToks : Finset (GSem nD τ sig × ℕ × Fin 3) := Finset.univ.map ⟨tokOf, tokOf_injective⟩

/-- The ghost state at launch: the staging's and the cells'. -/
def u₀ : UU :=
  (initOf (Pipeline.cells cfgs cellOf_inj) (Pipeline.launchToks cfgs cellOf_inj), initOf allCells allToks)

/-- The rights to pay a device's own cells. -/
def toks (c : Dev nD) : sProp 𝕄 :=
  iprop((bigSep Finset.univ fun i : Fin 3 => dutyTok ER (barCell c) 0 i)
    ∗ (bigSep Finset.univ fun x : Ex => dutyTok ER (sendCell c x) 0 0) ∗ bigSep Finset.univ fun x : Ex => dutyTok ER (recvCell c x) 0 0)

section Ghost

variable (p : Inp F)

/-- What a device is dealt. -/
def G (c : Dev nD) : sProp 𝕄 :=
  iprop((bigSep Finset.univ fun k => roundState ER (sched p) (kcell (c, k)) 0)
    ∗ (bigSep Finset.univ fun k => iprop(atPos ER (kcell (c, k)) 0 ∅ 0 ∗ reached ER (kcell (c, k)) 0)) ∗ toks c)

/-- What it holds once the rights are with those who pay. -/
def G' (c : Dev nD) : sProp 𝕄 := iprop(∃ K, recs p K ∗ poss c ∗ payToks c)

/-- The protocol state, as made for all cells and rights, is each device's part of it. -/
theorem fund_all : BI.own (ER (initOf allCells allToks)) ⊢ (|==> bigSep Finset.univ (G p) : sProp 𝕄) := by
  have hX (Φ : GSem nD τ sig → sProp 𝕄) : bigSep allCells Φ = bigSep Finset.univ fun c : Dev nD => bigSep Finset.univ fun k => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => by unfold toks; rw [bigSep_univ_sum, bigSep_univ_sum]; rfl
  iintro HX
  imod (Rounds.fund ER (sched p) allCells allToks) $$ HX with ⟨Hst, Hr, Hat, Htok⟩
  imodintro
  ihave Hst' := (Entails.of_eq (hX fun g => roundState ER (sched p) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- A device's semaphore outside the region, at zero, is its barrier cell at zero. -/
theorem unscopedSems0_eq (c : Dev nD) : (unscopedSems0 c : sProp 𝕄) = semVal (barCell c) 0 := by
  unfold unscopedSems0; rw [bigSep_eq_bigSepL_of_eq [SemLoc.reg barS] (by decide +kernel) (by decide)]; rfl

/-- A device's semaphores at zero are its cells at zero. -/
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k => semVal (kcell (c, k)) 0 : sProp 𝕄) := by
  have e : (bigSep Finset.univ fun k => semVal (kcell (c, k)) 0 : sProp 𝕄)
      = iprop(semVal (barCell c) 0 ∗ Pipeline.ownSems0 (Ix := Unit) (Name := ℕ) (U := UU) (Lvl := ℕ) (Val := Elt F) (τ := τ) osem c) := by
    rw [bigSep_univ_sum, bigSep_univ_of_subsingleton ()]; rfl
  rw [unscopedSems0_eq, e]
  iintro ⟨HO, HB⟩
  isplitl [HB]; · iexact HB
  iexact HO

/-- A device's semaphores at zero and its part of the protocol state become its cells' invariants, its places at them and its rights. -/
theorem core_alloc (c : Dev nD) :
    iprop(Pipeline.ownSems0 (Ix := Unit) (Name := ℕ) (U := UU) (Lvl := ℕ) (Val := Elt F) (τ := τ) osem c ∗ unscopedSems0 c ∗ G p c)
      ⊢ |={Set.univ}=> iprop((bigSep Finset.univ fun k => iprop(∃ κ : ℕ, cellInv ER (sched p) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k => semVal (kcell (c, k)) 0) ∗ bigSep Finset.univ fun k => roundState ER (sched p) (kcell (c, k)) 0)
      ⊢ (|={Set.univ}=> bigSep Finset.univ fun k => iprop(∃ κ : ℕ, cellInv ER (sched p) κ (kcell (c, k))) : sProp 𝕄) from by
        rw [← bigSep_sep']
        exact (bigSep_mono fun k _ => (Rounds.body_intro ER (sched p) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- Things dealt to every device and entry may be dealt around across the entry's bit pattern. -/
theorem around {T : Type} [Fintype T] (g : T → Fin 3) (Φ : Dev nD → T → sProp 𝕄) :
    (bigSep Finset.univ fun c : Dev nD => bigSep Finset.univ fun t => Φ c t)
      = bigSep Finset.univ fun c : Dev nD => bigSep Finset.univ fun t => Φ (flip (g t) c) t := by
  rw [bigSep_univ_comm (M := 𝕄) (fun c t => Φ c t), bigSep_univ_comm (M := 𝕄) (fun c t => Φ (flip (g t) c) t)]
  exact bigSep_congr fun t _ => bigSep_univ_equiv (flipE (g t)) (fun c => Φ c t)

/-- The rights to pay, dealt out by cell, are the rights dealt out by the device that pays. -/
theorem toks_around : (bigSep Finset.univ fun c : Dev nD => (toks c : sProp 𝕄)) ⊢ bigSep Finset.univ fun c : Dev nD => payToks c := by
  unfold toks payToks
  rw [bigSep_sep', bigSep_sep', bigSep_sep', around (fun i => i) (fun c i => dutyTok ER (barCell c) 0 i), around mk (fun c x => dutyTok ER (recvCell c x) 0 0),
    bigSep_congr (s := Finset.univ) (fun (c : Dev nD) _ => bigSep_sep' Finset.univ (fun x : Ex => (dutyTok ER (sendCell c x) 0 0 : sProp 𝕄)) fun x => dutyTok ER (recvCell (par x c) x) 0 0),
    bigSep_sep']

/-- A device's places at its cells, listed by cell, are its places. -/
theorem poss_intro (c : Dev nD) : (bigSep Finset.univ fun k => atPos ER (kcell (c, k)) 0 ∅ 0 : sProp 𝕄) ⊢ poss c := by
  unfold poss
  rw [bigSep_univ_sum, bigSep_univ_sum, bigSep_univ_of_subsingleton (), bigSep_sep']
  exact BI.Entails.refl _

/-- What all devices have after the cells are made is what each of them starts from. -/
theorem regroup :
    (bigSep Finset.univ fun c : Dev nD => iprop((bigSep Finset.univ fun k => iprop(∃ κ : ℕ, cellInv ER (sched p) κ (kcell (c, k))))
          ∗ (bigSep Finset.univ fun k => iprop(atPos ER (kcell (c, k)) 0 ∅ 0 ∗ reached ER (kcell (c, k)) 0)) ∗ toks c) : sProp 𝕄)
      ⊢ bigSep Finset.univ (G' p) := by
  rw [bigSep_sep', bigSep_sep', ← bigSep_univ_prod (fun ck : Cells => iprop(∃ κ : ℕ, cellInv ER (sched p) κ (kcell ck))),
    bigSep_congr (s := Finset.univ) (fun (c : Dev nD) _ => bigSep_sep' Finset.univ (fun k => (atPos ER (kcell (c, k)) 0 ∅ 0 : sProp 𝕄)) (fun k => reached ER (kcell (c, k)) 0)),
    bigSep_sep', ← bigSep_univ_prod (fun ck : Cells => (reached ER (kcell ck) 0 : sProp 𝕄))]
  iintro ⟨HI, ⟨Hat, #HR⟩, Htok⟩
  ihave HK := (BI.bigSep_exists_pi Finset.univ (fun (ck : Cells) (κ : ℕ) => (cellInv ER (sched p) κ (kcell ck) : sProp 𝕄))) $$ HI
  icases HK with ⟨%K, #HI⟩
  ihave Htk := (toks_around (F := F)) $$ Htok
  have hg (c : Dev nD) : iprop(recs p K ∗ (bigSep Finset.univ fun k => atPos ER (kcell (c, k)) 0 ∅ 0) ∗ payToks c) ⊢ G' p c := by
    unfold G'
    iintro ⟨HR, Hat, Ht⟩
    iexists K
    isplitl [HR]; · iexact HR
    isplitl [Hat]; · iapply (poss_intro c); iexact Hat
    iexact Ht
  iapply (bigSep_with_persistent (R := recs p K) fun c _ => hg c)
  isplitr
  · unfold recs; rw [bigSep_sep']; isplitl; · iexact HI
    iexact HR
  · iapply (Entails.of_eq (bigSep_sep' Finset.univ (fun c : Dev nD => bigSep Finset.univ fun k => (atPos ER (kcell (c, k)) 0 ∅ 0 : sProp 𝕄)) payToks).symm)
    isplitl [Hat]; · iexact Hat
    iexact Htk

/-- Every device's semaphores and ghost state at once. -/
theorem glob : (bigSep Finset.univ fun c => iprop(Pipeline.ownSems0 (Ix := Unit) (Name := ℕ) (U := UU) (Lvl := ℕ) (Val := Elt F) (τ := τ) osem c ∗ unscopedSems0 c ∗ G p c) : sProp 𝕄)
    ⊢ |={Set.univ}=> bigSep Finset.univ (G' p) :=
  ((bigSep_mono fun c _ => core_alloc p c).trans (bigSep_fupd _ _)).trans (BI.fupd_mono (regroup p))

end Ghost

/-! ## The credit at launch -/

/-- A barrier cell is no receive cell. -/
theorem bar_ne (c : Dev nD) (d : Dev nD) (x : Ex) : barCell c ≠ recvCell d x := fun h => by cases congrArg Prod.snd h
/-- Barrier cells of different devices differ. -/
theorem bar_inj {a b : Dev nD} (h : barCell a = barCell b) : a = b := congrArg (fun g : GSem nD τ sig => g.1.1) h
/-- Receive cells of different devices or exchanges differ. -/
theorem recv_inj {a b : Dev nD} {x y : Ex} (h : recvCell a x = recvCell b y) : a = b ∧ x = y := by
  have e := kcell_injective (a₁ := (a, .inr (.inr x))) (a₂ := (b, .inr (.inr y))) h
  exact ⟨congrArg Prod.fst e, Sum.inr.inj (Sum.inr.inj (congrArg Prod.snd e))⟩

/-- Of one direction, exactly one device owes a unit to a barrier. -/
theorem tally_bar (i : Fin 3) (c : Dev nD) :
    ∑ d : Dev nD, (tallyAt (barCell (flip i d)) () 1 : CellTallies nD τ sig Unit) (barCell c) () = 1 := by
  rw [Finset.sum_congr rfl fun d _ => (tallyAt_apply (barCell (flip i d)) () 1 (barCell c) ()).trans
    (show _ = if d = flip i c then 1 else 0 from if_congr
      ⟨fun h => by rw [bar_inj h.1, flip_flip], fun h => by subst h; rw [flip_flip]; exact ⟨rfl, rfl⟩⟩ rfl rfl)]
  rw [Finset.sum_ite_eq' Finset.univ (flip i c) fun _ => 1, if_pos (Finset.mem_univ _)]

/-- The copies owe nothing to a barrier. -/
theorem owed_bar (d c : Dev nD) : owed 0 d (barCell c) () = 0 := by
  by_contra h
  obtain ⟨x, -, hx⟩ := owed_pos (Nat.pos_of_ne_zero h)
  exact bar_ne _ _ _ hx

/-- Of a receive cell, the partner alone owes its amount. -/
theorem owed_recv (d c : Dev nD) (x : Ex) : owed 0 d (recvCell c x) () = if d = par x c then N x else 0 := by
  unfold owed
  rw [Finset.sum_apply, Finsupp.finsetSum_apply, Finset.filter_true_of_mem fun y _ => Nat.zero_le _, Finset.sum_eq_single x]
  · rw [tallyAt_apply]
    exact if_congr ⟨fun h => by rw [(recv_inj h.1).1, par_par], fun h => by subst h; rw [par_par]; exact ⟨rfl, rfl⟩⟩ rfl rfl
  · intro y _ hy
    rw [tallyAt_apply]
    exact if_neg fun h => hy (recv_inj h.1).2.symm
  · intro h; exact absurd (Finset.mem_univ x) h

/-- The credit of a barrier at launch is three units. -/
theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same]
  unfold O₀
  simp only [Pi.add_apply, Finsupp.add_apply, Finset.sum_add_distrib, tally_bar, owed_bar, Finset.sum_const_zero]

/-- The credit of a receive cell at launch is its exchange's amount. -/
theorem launch_recv (c : Dev nD) (x : Ex) :
    tallyOn (recvCell c x) (launchCredit (Pipeline.owing O₀) 0 (recvCell c x)) = (tallyAt (recvCell c x) () (N x) : CellTallies nD τ sig Unit) := by
  unfold tallyAt; refine congrArg _ (Finsupp.ext fun u => ?_); cases u
  have e (d : Dev nD) : O₀ d (recvCell c x) () = if d = par x c then N x else 0 := by
    unfold O₀
    rw [Pi.add_apply, Finsupp.add_apply, Pi.add_apply, Finsupp.add_apply, Pi.add_apply, Finsupp.add_apply, owed_recv,
      tallyAt_ne_cell (bar_ne _ _ _).symm, tallyAt_ne_cell (bar_ne _ _ _).symm, tallyAt_ne_cell (bar_ne _ _ _).symm]
    simp only [Finsupp.zero_apply, Nat.add_zero]
  rw [Pipeline.launchCredit_owing, Finsupp.single_eq_same, Finset.sum_congr rfl fun d _ => e d,
    Finset.sum_ite_eq' Finset.univ (par x c) fun _ => N x, if_pos (Finset.mem_univ _)]

/-- The credit that a device has at launch is the credit for its barrier and its receive cells. -/
theorem creds (c : Dev nD) : (Pipeline.launchCred O₀ c : sProp 𝕄) ⊢ credits c := by
  let Φ (sm : SemLoc sig) : sProp 𝕄 := cred (tallyOn ((c.tc, sm) : GSem nD τ sig) (launchCredit (Pipeline.owing O₀) 0 ((c.tc, sm) : GSem nD τ sig)))
  have e : bigSep (Finset.univ.map ⟨csem, csem_injective⟩) Φ
      = iprop(cred (tallyAt (barCell c) () 3) ∗ (bigSep Finset.univ fun x : Ex => Φ (.dma (sendS x)))
          ∗ bigSep Finset.univ fun x : Ex => cred (tallyAt (recvCell c x) () (N x))) := by
    have hb : Φ (csem (.inl ())) = cred (tallyAt (barCell c) () 3) := congrArg cred (launch_bar c)
    have hr (x : Ex) : Φ (csem (.inr (.inr x))) = cred (tallyAt (recvCell c x) () (N x)) := congrArg cred (launch_recv c x)
    rw [bigSep_map, bigSep_univ_sum, bigSep_univ_sum, bigSep_univ_of_subsingleton ()]
    simp only [Function.Embedding.coeFn_mk, hb, hr]
    rfl
  have h : (Pipeline.launchCred O₀ c : sProp 𝕄) ⊢ bigSep (Finset.univ.map ⟨csem, csem_injective⟩) Φ := by
    unfold Pipeline.launchCred
    exact BI.bigSep_subset (Finset.subset_univ _)
  unfold credits
  iintro H
  ihave H := h $$ H
  ihave H := (Entails.of_eq e) $$ H
  icases H with ⟨HB, -, HR⟩
  isplitl [HB]; · iexact HB
  iexact HR

end Cert.KernelIdeal.Own
-- ==== Proof.RunIdeal.lean ====
module

public import proofs.«01_k».proof.Proof.GhostIdeal
public import proofs.«01_k».proof.Proof.Gen.KernelIdeal.Frame
public import Idealize.ShloMosaic.Lib.Pipeline.ValueKit.Geometry
public import Idealize.ShloMosaic.Lib.Pipeline.CollectiveSegs

@[expose] public section

noncomputable section

namespace Cert.KernelIdeal.Own

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

open Idealize.ShloMosaic.Pipeline (Dat Cfg Window BodyObligation cellOf)

variable (m : (ℓ : Loc nD τ sig) → Buf (Elt F) ℓ) (ρ : Dev nD → PrngReg)

/-- The memory at launch: all counters zero. -/
abbrev s₀ : MemSt nD τ sig (Elt F) := ⟨m, fun _ => 0, ρ⟩

/-- What a device's buffer holds at launch. -/
abbrev at₀ (c : Dev nD) (b : Ref sig .tc) : b.ty.Contents (Elt F) := m ((c : Thread nD τ).loc b)

/-- The kernel's arguments: each device's `x` and its shards of the three layers' two weights. -/
def inp : Inp F where
  x c := at₀ m c main_arg0
  w l c := match l with
    | 0 => at₀ m c main_arg1
    | 1 => at₀ m c main_arg3
    | _ => at₀ m c main_arg5
  u l c := match l with
    | 0 => at₀ m c main_arg2
    | 1 => at₀ m c main_arg4
    | _ => at₀ m c main_arg6

/-- What the body starts from. -/
def start (c : Dev nD) : sProp 𝕄 := iprop(G' (inp m) c ∗ credits c ∗ levAts L lv)
/-- What a device has when the body starts. -/
def Φ₀ (c : Dev nD) : sProp 𝕄 := iprop(start m c ∗ raw c)
/-- What it leaves. -/
def Φ₁ (c : Dev nD) : sProp 𝕄 := iprop(raw c ∗ zeros c)

/-- The region's account: what each window's array holds and how it is left. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => (inp m).x c
    | ⟨1, _⟩ => (inp m).w 0 c
    | ⟨2, _⟩ => (inp m).u 0 c
    | ⟨3, _⟩ => (inp m).w 1 c
    | ⟨4, _⟩ => (inp m).u 1 c
    | ⟨5, _⟩ => (inp m).w 2 c
    | ⟨6, _⟩ => (inp m).u 2 c
    | ⟨7, _⟩ => outV (inp m) c
  Φ t := match t with
    | ⟨0, _⟩ => Φ₀ m c
    | ⟨_ + 1, _⟩ => Φ₁ c
  q _ := fullShare
  owed t := match t with
    | ⟨0, _⟩ => O₀ c
    | ⟨_ + 1, _⟩ => 0

/-- The eight windows one by one. -/
theorem bigSep_W (Φ : Fin cfg0.W → sProp 𝕄) : bigSep Finset.univ Φ
    = iprop(Φ (0 : Fin 8) ∗ Φ (1 : Fin 8) ∗ Φ (2 : Fin 8) ∗ Φ (3 : Fin 8) ∗ Φ (4 : Fin 8) ∗ Φ (5 : Fin 8) ∗ Φ (6 : Fin 8) ∗ Φ (7 : Fin 8)) := bigSep_W0 Φ

/-- An argument's staging buffer holds the argument when the body starts. -/
theorem before_0 (c : Dev nD) (d) : (dats m ρ 0 c).before 0 t0_0 d = (inp m).x c := by
  unfold Dat.before; rw [if_pos (fetch0_0 t0_0)]
  show ((win0_0.blk t0_0).view.read (Elt F) (at₀ m c main_arg0)) = at₀ m c main_arg0
  exact Memref.read_access_unit_zero (Elt F) main_arg0 (funext fun _ => Nat.zero_mul _) (fun _ => by rw [Nat.zero_mul, Nat.zero_add]) _
/-- Window 1 brings the first weights of layer 0. -/
theorem before_1 (c : Dev nD) (d) : (dats m ρ 0 c).before 1 t0_0 d = (inp m).w 0 c := by
  unfold Dat.before; rw [if_pos (fetch0_1 t0_0)]
  show ((win0_1.blk t0_0).view.read (Elt F) (at₀ m c main_arg1)) = at₀ m c main_arg1
  exact Memref.read_access_unit_zero (Elt F) main_arg1 (funext fun _ => Nat.zero_mul _) (fun _ => by rw [Nat.zero_mul, Nat.zero_add]) _
/-- Window 2 brings the second weights of layer 0. -/
theorem before_2 (c : Dev nD) (d) : (dats m ρ 0 c).before 2 t0_0 d = (inp m).u 0 c := by
  unfold Dat.before; rw [if_pos (fetch0_2 t0_0)]
  show ((win0_2.blk t0_0).view.read (Elt F) (at₀ m c main_arg2)) = at₀ m c main_arg2
  exact Memref.read_access_unit_zero (Elt F) main_arg2 (funext fun _ => Nat.zero_mul _) (fun _ => by rw [Nat.zero_mul, Nat.zero_add]) _
/-- Window 3 brings the first weights of layer 1. -/
theorem before_3 (c : Dev nD) (d) : (dats m ρ 0 c).before 3 t0_0 d = (inp m).w 1 c := by
  unfold Dat.before; rw [if_pos (fetch0_3 t0_0)]
  show ((win0_3.blk t0_0).view.read (Elt F) (at₀ m c main_arg3)) = at₀ m c main_arg3
  exact Memref.read_access_unit_zero (Elt F) main_arg3 (funext fun _ => Nat.zero_mul _) (fun _ => by rw [Nat.zero_mul, Nat.zero_add]) _
/-- Window 4 brings the second weights of layer 1. -/
theorem before_4 (c : Dev nD) (d) : (dats m ρ 0 c).before 4 t0_0 d = (inp m).u 1 c := by
  unfold Dat.before; rw [if_pos (fetch0_4 t0_0)]
  show ((win0_4.blk t0_0).view.read (Elt F) (at₀ m c main_arg4)) = at₀ m c main_arg4
  exact Memref.read_access_unit_zero (Elt F) main_arg4 (funext fun _ => Nat.zero_mul _) (fun _ => by rw [Nat.zero_mul, Nat.zero_add]) _
/-- Window 5 brings the first weights of layer 2. -/
theorem before_5 (c : Dev nD) (d) : (dats m ρ 0 c).before 5 t0_0 d = (inp m).w 2 c := by
  unfold Dat.before; rw [if_pos (fetch0_5 t0_0)]
  show ((win0_5.blk t0_0).view.read (Elt F) (at₀ m c main_arg5)) = at₀ m c main_arg5
  exact Memref.read_access_unit_zero (Elt F) main_arg5 (funext fun _ => Nat.zero_mul _) (fun _ => by rw [Nat.zero_mul, Nat.zero_add]) _
/-- Window 6 brings the second weights of layer 2. -/
theorem before_6 (c : Dev nD) (d) : (dats m ρ 0 c).before 6 t0_0 d = (inp m).u 2 c := by
  unfold Dat.before; rw [if_pos (fetch0_6 t0_0)]
  show ((win0_6.blk t0_0).view.read (Elt F) (at₀ m c main_arg6)) = at₀ m c main_arg6
  exact Memref.read_access_unit_zero (Elt F) main_arg6 (funext fun _ => Nat.zero_mul _) (fun _ => by rw [Nat.zero_mul, Nat.zero_add]) _

/-- A whole staged buffer at a value. -/
abbrev stg (c : Dev nD) {s : Shape} {e : EltTy} (M : Memref sig .tc .vmem s e) (X : s.Idx → Elt F e) : sProp 𝕄 :=
  owns (c : Thread nD τ) M fullShare X

set_option maxRecDepth 65536 in
/-- What the body starts from. -/
def bodyPre (c : Dev nD) : sProp 𝕄 :=
  iprop(Φ₀ m c ∗ (dats m ρ 0 c).owesAt () t0_0.castSucc
    ∗ (∃ d, stg c xM ((dats m ρ 0 c).before (0 : Fin 8) t0_0 d))
    ∗ (∃ d, stg c (winM 0) ((dats m ρ 0 c).before (1 : Fin 8) t0_0 d))
    ∗ (∃ d, stg c (woutM 0) ((dats m ρ 0 c).before (2 : Fin 8) t0_0 d))
    ∗ (∃ d, stg c (winM 1) ((dats m ρ 0 c).before (3 : Fin 8) t0_0 d))
    ∗ (∃ d, stg c (woutM 1) ((dats m ρ 0 c).before (4 : Fin 8) t0_0 d))
    ∗ (∃ d, stg c (winM 2) ((dats m ρ 0 c).before (5 : Fin 8) t0_0 d))
    ∗ (∃ d, stg c (woutM 2) ((dats m ρ 0 c).before (6 : Fin 8) t0_0 d))
    ∗ (∃ d, stg c outM ((dats m ρ 0 c).before (7 : Fin 8) t0_0 d)))

/-- What the body ends with. -/
def bodyPost (c : Dev nD) : sProp 𝕄 :=
  iprop(Φ₁ c ∗ (dats m ρ 0 c).owesAt () t0_0.succ
    ∗ stg c xM ((inp m).x c) ∗ stg c (winM 0) ((inp m).w 0 c) ∗ stg c (woutM 0) ((inp m).u 0 c)
    ∗ stg c (winM 1) ((inp m).w 1 c) ∗ stg c (woutM 1) ((inp m).u 1 c)
    ∗ stg c (winM 2) ((inp m).w 2 c) ∗ stg c (woutM 2) ((inp m).u 2 c) ∗ stg c outM (outV (inp m) c))

/-- The six weights are the three layers' pairs. -/
theorem wts_eq (c : Dev nD) : (wts (inp m) c : sProp 𝕄)
    = iprop((stg c (winM 0) ((inp m).w 0 c) ∗ stg c (woutM 0) ((inp m).u 0 c))
      ∗ (stg c (winM 1) ((inp m).w 1 c) ∗ stg c (woutM 1) ((inp m).u 1 c))
      ∗ (stg c (winM 2) ((inp m).w 2 c) ∗ stg c (woutM 2) ((inp m).u 2 c))) := by
  unfold wts layAt; rw [bigSep_fin3]; rfl

/-- From what it starts with, the printed body leaves the layers' result. -/
theorem sound_body (c : Dev nD) : bodyPre m ρ c ⊢ wp frame (wpE (defs₀ (F := F)) 𝒱₀ c none) Set.univ body (fun _ => bodyPost m ρ c) := by
  unfold bodyPre Φ₀ start G' Dat.owesAt Pipeline.owesWithin
  rw [show (dats m ρ 0 c).owed t0_0.castSucc = O₀ c from rfl]
  simp only [before_0, before_1, before_2, before_3, before_4, before_5, before_6]
  iintro ⟨⟨⟨⟨%K, #HR, HP, HT⟩, HC, #HL⟩, Hraw⟩, ⟨%W, %hW, HO⟩, ⟨%d0, Hx⟩, ⟨%d1, H1⟩, ⟨%d2, H2⟩, ⟨%d3, H3⟩, ⟨%d4, H4⟩, ⟨%d5, H5⟩, ⟨%d6, H6⟩, ⟨%d7, Hout⟩⟩
  iapply (body_wp (inp m) K c W fun _ => bodyPost m ρ c)
  isplitr
  · unfold ctx; isplitr; · iexact HR
    iexact HL
  isplitl [HP]; · iexact HP
  isplitl [HT]; · iexact HT
  isplitl [HC]; · iexact HC
  isplitl [Hraw]; · iexact Hraw
  isplitl [HO]; · iexact HO
  isplitl [Hx]; · iexact Hx
  isplitl [Hout]; · iexists _; iexact Hout
  isplitl [H1 H2 H3 H4 H5 H6]
  · iapply (Entails.of_eq (wts_eq m c).symm)
    isplitl [H1 H2]; · isplitl [H1] <;> iassumption
    isplitl [H3 H4]; · isplitl [H3] <;> iassumption
    isplitl [H5] <;> iassumption
  iintro ⟨Hraw, Hz, ⟨%W', HO⟩, Hx, Hout, HW⟩
  ihave HW := (Entails.of_eq (wts_eq m c)) $$ HW
  icases HW with ⟨⟨H1, H2⟩, ⟨H3, H4⟩, H5, H6⟩
  unfold bodyPost Φ₁ Dat.owesAt Pipeline.owesWithin
  rw [show (dats m ρ 0 c).owed t0_0.succ = 0 from rfl]
  isplitl [Hraw Hz]
  · isplitl [Hraw] <;> iassumption
  isplitl [HO]
  · iexists W'
    isplitr; · ipureintro; exact fun _ _ => Or.inl trivial
    iexact HO
  isplitl [Hx]; · iexact Hx
  isplitl [H1]; · iexact H1
  isplitl [H2]; · iexact H2
  isplitl [H3]; · iexact H3
  isplitl [H4]; · iexact H4
  isplitl [H5]; · iexact H5
  isplitl [H6]; · iexact H6
  iexact Hout

set_option maxRecDepth 65536 in
/-- The body meets what the launch asks of it. -/
theorem body_obligation (c : Dev nD) : BodyObligation (dats (F := F) m ρ 0 c) (defs₀ (F := F)) 𝒱₀ () Set.univ := fun t => by
  rw [fin_N0 t]
  rw [bigSep_W, bigSep_W]
  show bodyPre m ρ c ⊢ wp frame (wpE (defs₀ (F := F)) 𝒱₀ c none) Set.univ
    (cc0_body xM (Memref.isWhole_whole _) (winM 0) (Memref.isWhole_whole _) (woutM 0) (Memref.isWhole_whole _)
      (winM 1) (Memref.isWhole_whole _) (woutM 1) (Memref.isWhole_whole _) (winM 2) (Memref.isWhole_whole _) (woutM 2) (Memref.isWhole_whole _)
      outM (Memref.isWhole_whole _) accM (Memref.isWhole_whole _) commM (Memref.isWhole_whole _) stageM (Memref.isWhole_whole _)
      cc0_scratch3 cc0_scratch4) (fun _ => bodyPost m ρ c)
  rw [body_eq]
  exact sound_body m ρ c

/-! ## The launch -/

/-- The kernel's own semaphores are the send and receive semaphores. -/
theorem ownSemFacts : Pipeline.OwnSemFacts cfg0.spec osem where
  isScoped k := by revert k; decide +kernel
  inj a b h := by
    have := csem_injective (a₁ := .inr a) (a₂ := .inr b) h
    exact Sum.inr.inj this
  disj := by decide +kernel

/-- Every window is held in full. -/
theorem share_eq (c : Dev nD) (w : Fin cfg0.W) : (dats m ρ 0 c).share w = fullShare := by unfold Dat.share; split <;> rfl

/-- What the launch gives is what a device starts from. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (inp m) c)
      ⊢ |={Set.univ}=> iprop(start m c ∗ emp) := by
  iintro ⟨-, Hlev, Hcr, -, HG⟩
  ihave Hc := (creds (F := F) c) $$ Hcr
  imodintro
  unfold start
  isplitl
  · isplitl [HG]; · iexact HG
    isplitl [Hc]; · iexact Hc
    iexact Hlev
  · iempintro

/-- With its scratch buffers it is what the body starts from. -/
theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ raw
  iintro ⟨Hs, -, Hr⟩
  isplitl [Hs]; · iexact Hs
  iexact Hr

/-- A device's cells at zero are its semaphores at zero. -/
theorem zeros_eq (c : Dev nD) :
    (zeros c : sProp 𝕄) = iprop(unscopedSems0 c ∗ Pipeline.ownSems0 (Ix := Unit) (Name := ℕ) (U := UU) (Lvl := ℕ) (Val := Elt F) (τ := τ) osem c) := by
  unfold zeros Pipeline.ownSems0
  rw [unscopedSems0_eq, bigSep_univ_sum, bigSep_sep']
  rfl

/-- What the body leaves gives back the semaphores at zero and the scratch buffers. -/
theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq]
  unfold Φ₁
  rw [zeros_eq]
  unfold raw
  iintro ⟨Hr, HzB, HzO⟩
  isplitl [HzB]; · iexact HzB
  isplitl [HzO]; · iexact HzO
  iexact Hr

/-- The pipeline may wait for its own copies, before the body and after it. -/
theorem waits (c : Dev nD) : (levAts L lv : sProp 𝕄) ⊢ Pipeline.cellsWaits cfgs (dats m ρ) () 0 c :=
  Pipeline.cellsWaits_intro cfgs (dats m ρ) () 0 c fun w s t =>
    mayWait_stage c _ (by revert w s; decide +kernel) _ (by
      rcases t with ⟨_ | _, ht⟩
      · exact Or.inl rfl
      · exact Or.inr rfl)

/-! ## The run -/

/-- What a window's array holds at the end. -/
def finalA (c : Dev nD) (w : Fin cfg0.W) : Buf (Elt F) ((cfg0.win w).arr.view.loc (c : Thread nD τ)) := (dats m ρ 0 c).arrAt w cfg0.N

/-- At the end each array of a window holds what the account says. -/
def QC : PUnit × MemSt nD τ sig (Elt F) → Prop := fun r =>
  ∀ c : Dev nD, ∀ w : Fin cfg0.W, r.2.mem ((cfg0.win w).arr.view.loc (c : Thread nD τ)) = finalA m ρ c w

set_option maxRecDepth 65536 in
/-- From any memory with zero counters, every weakly fair execution of the eight devices terminates, with each array at
    what the body leaves and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G (inp m)) (G' := G' (inp m)) (u₀ := u₀)
    (hu₀ := by
      unfold u₀
      iintro Hu
      ihave H := (ownU_pair _ _) $$ Hu
      icases H with ⟨HP, HX⟩
      imod (fund_all (inp m)) $$ HX with HG
      imodintro
      isplitl [HP] <;> iassumption)
    (hglob := glob (inp m))
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The result array ends holding the last sums. -/
theorem finalA_out (c : Dev nD) : finalA m ρ c (7 : Fin 8) = outV (inp m) c := by
  unfold finalA
  refine (dats m ρ 0 c).arrAt_eq_of_covers (7 : Fin 8) _ (by decide +kernel) fun t hf y => ?_
  have h : ((dats m ρ 0 c).flushed (7 : Fin 8) t) = ((cfg0.win (7 : Fin 8)).blk t).view.read (Elt F) (outV (inp m) c) := by
    rw [fin_N0 t]
    exact (Memref.read_access_unit_zero (Elt F) main_v1 (funext fun _ => Nat.zero_mul _) (fun _ => by rw [Nat.zero_mul, Nat.zero_add]) _).symm
  exact congrFun h y

/-- The arguments are as launched, the result holds the last sums, and every counter is at zero. -/
theorem run_all : θ_run defs (onTc (τ := τ) (main (F := F))) (s₀ m ρ) (fun r =>
    (∀ c : Dev nD, at₀ r.2.mem c main_v1 = outV (inp m) c
      ∧ at₀ r.2.mem c main_arg0 = at₀ m c main_arg0 ∧ at₀ r.2.mem c main_arg1 = at₀ m c main_arg1 ∧ at₀ r.2.mem c main_arg2 = at₀ m c main_arg2
      ∧ at₀ r.2.mem c main_arg3 = at₀ m c main_arg3 ∧ at₀ r.2.mem c main_arg4 = at₀ m c main_arg4 ∧ at₀ r.2.mem c main_arg5 = at₀ m c main_arg5
      ∧ at₀ r.2.mem c main_arg6 = at₀ m c main_arg6) ∧ r.2.sem = fun _ => 0) :=
  (θ_run defs _ _).mono (fun r h => ⟨fun c => ⟨(h.1 c (7 : Fin 8)).trans (finalA_out m ρ c),
    (h.1 c (0 : Fin 8)).trans ((dats m ρ 0 c).arrAt_in (0 : Fin 8) rfl _), (h.1 c (1 : Fin 8)).trans ((dats m ρ 0 c).arrAt_in (1 : Fin 8) rfl _),
    (h.1 c (2 : Fin 8)).trans ((dats m ρ 0 c).arrAt_in (2 : Fin 8) rfl _), (h.1 c (3 : Fin 8)).trans ((dats m ρ 0 c).arrAt_in (3 : Fin 8) rfl _),
    (h.1 c (4 : Fin 8)).trans ((dats m ρ 0 c).arrAt_in (4 : Fin 8) rfl _), (h.1 c (5 : Fin 8)).trans ((dats m ρ 0 c).arrAt_in (5 : Fin 8) rfl _),
    (h.1 c (6 : Fin 8)).trans ((dats m ρ 0 c).arrAt_in (6 : Fin 8) rfl _)⟩, h.2⟩) (run_main m ρ)

end Cert.KernelIdeal.Own
-- ==== Proof.ValueIdeal.lean ====
module

public import proofs.«01_k».proof.Proof.RunIdeal
public import proofs.«01_k».proof.Proof.Gen.ReferenceIdeal
public import Idealize.ShloMosaic.Lib.MatmulPlain
public import Idealize.ShloMosaic.Lib.StackMember
public import Idealize.ShloMosaic.Lib.ValueIdx
public import Idealize.ShloMosaic.Lib.Pipeline.Value

@[expose] public section

noncomputable section

namespace Cert.KernelIdeal.Own

open Cert.KernelIdeal Cert.KernelIdeal.Gen
open Idealize.ShloMosaic
open Idealize.ShloMosaic.ValueIdx Idealize.ShloMosaic.StackMember
open scoped BigOperators

/-! ## Over the extended reals -/

/-- A whole layer, as the reference computes it. -/
def layer (X : FVec Ideal Cert.ReferenceIdeal.S256x256 .f32) (W : FVec Ideal Cert.ReferenceIdeal.S256x4096 .f32)
    (U : FVec Ideal Cert.ReferenceIdeal.S4096x256 .f32) : FVec Ideal Cert.ReferenceIdeal.S256x256 .f32 :=
  Host.dotGeneral Cert.ReferenceIdeal.dot_S256x4096_S4096x256_S256x256_1_0_0_1_n_n none
    (maximumf (Host.dotGeneral Cert.ReferenceIdeal.dot_S256x256_S256x4096_S256x4096_1_0_0_1_n_n none X W)
      (broadcastInDim Cert.ReferenceIdeal.S256x4096 ![] Cert.ReferenceIdeal.Gen.bcast_S_S256x4096 (constant Cert.ReferenceIdeal.S_ .f32 0x00000000#32))) U

/-- An element of a layer: the hidden units' positive parts, weighed. -/
theorem layer_apply (X W U) (i n : Fin 256) :
    layer X W U (ix2 i n) = ∑ h : Fin 4096, max (∑ k : Fin 256, X (ix2 i k) * W (ix2 k h)) 0 * U (ix2 h n) := by
  unfold layer
  refine (dotGeneral_plain_apply (m := 256) (n := 256) (k := 4096) none _ U i n).trans (Finset.sum_congr rfl fun h _ => congrArg (· * U (ix2 h n)) ?_)
  show max (Host.dotGeneral (DotDims.plain 256 256 4096) none X W (ix2 i h)) (Ideal.ofBits .f32 0x00000000#32) = _
  rw [dotGeneral_plain_apply, Ideal.ofBits_zero_f32]

/-- An element of a device's share of a layer on a third. -/
theorem lay_apply (j : Fin 3) (v w u) (r : Fin (sz j)) (n : Fin 256) :
    lay (F := Ideal) j v w u (ix2 r n) = ∑ h : Fin 512, max (∑ k : Fin 256, v (ix2 r k) * w (ix2 k h)) 0 * u (ix2 h n) := by
  unfold lay
  rw [shapeCast_self, shapeCast_self, shapeCast_self]
  refine (congrFun (matmul_zero_eq_dotGeneral (DotDims.plain (sz j) 512 256) none _ u) _).trans ?_
  refine (dotGeneral_plain_apply (m := sz j) (n := 256) (k := 512) none _ u r n).trans (Finset.sum_congr rfl fun h _ => congrArg (· * u (ix2 h n)) ?_)
  show max (matmul (DotDims.plain (sz j) 256 512) none v w (constant (SH j) .f32 0x00000000#32) (ix2 r h)) (Ideal.ofBits .f32 0x00000000#32) = _
  rw [matmul_zero_eq_dotGeneral, dotGeneral_plain_apply, Ideal.ofBits_zero_f32]

/-- What is sent arrives unrounded, and is added. -/
theorem plus_pack (j : Fin 3) (v w : Vec Ideal (SR j) .f32) (i : (SR j).Idx) : plus (F := Ideal) j v (pack (F := Ideal) j w) i = v i + w i := by
  unfold plus pack
  show (v i : EReal) + shapeCast (SR j) (shapeCast (SC j) (truncf (F := Ideal) .bf16 w bitsLt_bf16_f32) (SR_SC j)) (SC_SR j) i = _
  rw [shapeCast_shapeCast]; rfl

/-- Three exchanges across the three bit patterns, in any of the three orders, reach all eight devices. -/
theorem reach (j : Fin 3) (l : Fin 3) (c : Dev nD) :
    List.Perm [c, flip (dir (3 * l.val) j) c, flip (dir (3 * l.val + 1) j) c, flip (dir (3 * l.val) j) (flip (dir (3 * l.val + 1) j) c),
      flip (dir (3 * l.val + 2) j) c, flip (dir (3 * l.val) j) (flip (dir (3 * l.val + 2) j) c),
      flip (dir (3 * l.val + 1) j) (flip (dir (3 * l.val + 2) j) c),
      flip (dir (3 * l.val) j) (flip (dir (3 * l.val + 1) j) (flip (dir (3 * l.val + 2) j) c))] (List.finRange 8) := by
  revert j l c; decide +kernel

/-- After a layer's three exchanges every device holds the sum over all devices. -/
theorem sum_all (p : Inp Ideal) (j : Fin 3) (l : Fin 3) (c : Dev nD) (i : (SR j).Idx) :
    sum p j (3 * l.val + 2) c i = ∑ d : Dev nD, acc p j (3 * l.val) d i := by
  have a1 (d : Dev nD) : acc p j (3 * l.val + 1) d i = acc p j (3 * l.val) d i + acc p j (3 * l.val) (flip (dir (3 * l.val) j) d) i := by
    have e : ((3 * l.val + 1) % 3 == 0) = false := by rw [beq_eq_false_iff_ne]; omega
    show (bif (3 * l.val + 1) % 3 == 0 then _ else _ : Vec Ideal (SR j) .f32) i = _
    rw [e]; exact plus_pack _ _ _ _
  have a2 (d : Dev nD) : acc p j (3 * l.val + 2) d i = acc p j (3 * l.val + 1) d i + acc p j (3 * l.val + 1) (flip (dir (3 * l.val + 1) j) d) i := by
    have e : ((3 * l.val + 2) % 3 == 0) = false := by rw [beq_eq_false_iff_ne]; omega
    show (bif (3 * l.val + 2) % 3 == 0 then _ else _ : Vec Ideal (SR j) .f32) i = _
    rw [e]; exact plus_pack _ _ _ _
  have a3 : sum p j (3 * l.val + 2) c i = acc p j (3 * l.val + 2) c i + acc p j (3 * l.val + 2) (flip (dir (3 * l.val + 2) j) c) i :=
    plus_pack _ _ _ _
  have e := ((reach j l c).map fun d => acc p j (3 * l.val) d i).sum_eq
  rw [← List.ofFn_eq_map, List.sum_ofFn] at e
  refine Eq.trans ?_ e
  simp only [List.map_cons, List.map_nil, List.sum_cons, List.sum_nil]
  rw [a3, a2, a2, a1, a1, a1, a1]
  abel

/-! ## The shards -/

section Shards

variable {p : Inp Ideal} {X : FVec Ideal Cert.ReferenceIdeal.S256x256 .f32} {W : ℕ → FVec Ideal Cert.ReferenceIdeal.S256x4096 .f32}
  {U : ℕ → FVec Ideal Cert.ReferenceIdeal.S4096x256 .f32}

/-- The layers applied so far. -/
def deep (X : FVec Ideal Cert.ReferenceIdeal.S256x256 .f32) (W : ℕ → FVec Ideal Cert.ReferenceIdeal.S256x4096 .f32)
    (U : ℕ → FVec Ideal Cert.ReferenceIdeal.S4096x256 .f32) : ℕ → FVec Ideal Cert.ReferenceIdeal.S256x256 .f32
  | 0 => X
  | l + 1 => layer (deep X W U l) (W l) (U l)

/-- Each device has `x` and its blocks of the weights. -/
structure Sharded (p : Inp Ideal) (X : FVec Ideal Cert.ReferenceIdeal.S256x256 .f32) (W : ℕ → FVec Ideal Cert.ReferenceIdeal.S256x4096 .f32)
    (U : ℕ → FVec Ideal Cert.ReferenceIdeal.S4096x256 .f32) : Prop where
  x : ∀ c, p.x c = X
  w : ∀ l c, p.w l c = Layout.block ⟨2, ![256, 512]⟩ ⟨2, ![256, 4096]⟩ 1 8 c (W l)
  u : ∀ l c, p.u l c = Layout.block ⟨2, ![512, 256]⟩ ⟨2, ![4096, 256]⟩ 0 8 c (U l)

/-- The devices' shares of a layer on a third add up to the layer's third. -/
theorem shares (hp : Sharded p X W U) (j : Fin 3) (l : ℕ) (Y : FVec Ideal Cert.ReferenceIdeal.S256x256 .f32) (i : (SR j).Idx) :
    ∑ d : Dev nD, lay (F := Ideal) j (third (F := Ideal) j Y) (p.w l d) (p.u l d) i = third (F := Ideal) j (layer Y (W l) (U l)) i := by
  obtain ⟨r, n, rfl⟩ : ∃ (r : Fin (sz j)) (n : Fin 256), i = ix2 r n := ⟨i 0, i 1, eq_ix2 i⟩
  have hr : off j + r.val < 256 := by
    have h1 : off j + sz j ≤ 256 := by revert j; decide
    omega
  have he (k : Fin 256) : (rows j).emb (ix2 r k) = ix2 (⟨off j + r.val, hr⟩ : Fin 256) k := by
    funext a; apply Fin.ext
    match a with
    | ⟨0, _⟩ => exact congrArg (off j + ·) (Nat.one_mul _)
    | ⟨1, _⟩ => exact (Nat.zero_add _).trans (Nat.one_mul _)
  have ht (Z : FVec Ideal Cert.ReferenceIdeal.S256x256 .f32) (k : Fin 256) : third (F := Ideal) j Z (ix2 r k) = Z (ix2 (⟨off j + r.val, hr⟩ : Fin 256) k) :=
    congrArg Z (he k)
  rw [ht, layer_apply]
  have hs := Equiv.sum_comp (finProdFinEquiv (m := 8) (n := 512))
    (fun h : Fin (8 * 512) => max (∑ k : Fin 256, Y (ix2 (⟨off j + r.val, hr⟩ : Fin 256) k) * W l (ix2 k h)) 0 * U l (ix2 h n))
  refine Eq.trans ?_ hs
  rw [Fintype.sum_prod_type]
  refine Finset.sum_congr rfl fun d _ => ?_
  rw [lay_apply]
  refine Finset.sum_congr rfl fun h _ => ?_
  have hw (k : Fin 256) : p.w l d (ix2 k h) = W l (ix2 k (finProdFinEquiv (d, h))) := by
    rw [hp.w]
    refine congrArg (W l) (funext fun a => Fin.ext ?_)
    match a with
    | ⟨0, _⟩ => rfl
    | ⟨1, _⟩ => show d.val * 512 + h.val = h.val + 512 * d.val; omega
  have hu : p.u l d (ix2 h n) = U l (ix2 (finProdFinEquiv (d, h)) n) := by
    rw [hp.u]
    refine congrArg (U l) (funext fun a => Fin.ext ?_)
    match a with
    | ⟨0, _⟩ => show d.val * 512 + h.val = h.val + 512 * d.val; omega
    | ⟨1, _⟩ => rfl
  rw [hu]
  simp only [ht, hw]

/-- When a layer's exchanges start, each device holds its share of that layer, of the layers before. -/
theorem acc_layer (hp : Sharded p X W U) (j : Fin 3) : ∀ (l : ℕ) (hl : l < 3) (c : Dev nD),
    acc p j (3 * l) c = lay j (third j (deep X W U l)) (p.w l c) (p.u l c)
  | 0, _, c => by
    show lay j (third j (p.x c)) (p.w 0 c) (p.u 0 c) = _
    rw [hp.x]; rfl
  | l + 1, hl, c => by
    have ih := acc_layer hp j l (by omega)
    have hs : sum p j (3 * l + 2) c = third j (deep X W U (l + 1)) := funext fun i => by
      rw [sum_all p j ⟨l, by omega⟩ c i]
      simp only [ih]
      exact shares hp j l (deep X W U l) i
    have e : ((3 * l + 2 + 1) % 3 == 0) = true := by rw [beq_iff_eq]; omega
    have e' : (3 * l + 2 + 1) / 3 = l + 1 := by omega
    show (bif (3 * l + 2 + 1) % 3 == 0 then lay j (sum p j (3 * l + 2) c) (p.w ((3 * l + 2 + 1) / 3) c) (p.u ((3 * l + 2 + 1) / 3) c)
      else sum p j (3 * l + 2) c) = _
    rw [e, e', hs]; rfl

/-- Every device's result is the three layers of `x`. -/
theorem outV_eq (hp : Sharded p X W U) (c : Dev nD) : outV p c = deep X W U 3 := by
  have hs (j : Fin 3) : sum p j 8 c = third j (deep X W U 3) := funext fun i => by
    rw [show (8 : ℕ) = 3 * (2 : Fin 3).val + 2 from rfl, sum_all p j 2 c i]
    simp only [fun d => acc_layer hp j 2 (by decide) d, show 3 * (2 : Fin 3).val = 3 * 2 from rfl]
    exact shares hp j 2 (deep X W U 2) i
  funext i
  have hi : i ∈ (Finset.univ : Finset (Fin 3)).biUnion fun j => (rows j).set := by rw [rows_cover]; exact Finset.mem_univ i
  obtain ⟨j, -, hj⟩ := Finset.mem_biUnion.mp hi
  obtain ⟨y, rfl⟩ := (rows j).exists_idx_of_mem hj
  exact congrFun ((third_outV p c j).trans (hs j)) y

end Shards

end Cert.KernelIdeal.Own
-- ==== Proof.lean ====
/- The certificate: the kernel runs on eight devices and ends quiescent, on bits and over the extended reals; so does the
   reference; and over the extended reals every device's result is the reference's. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Run
public import proofs.«01_k».proof.Proof.RunIdeal
public import proofs.«01_k».proof.Proof.ValueIdeal
public import Idealize.ShloMosaic.Adequacy
public import Idealize.ShloMosaic.Init

@[expose] public section

noncomputable section

namespace Cert.Proof

open Idealize.ShloMosaic Idealize.SL.Sem

/-- The kernel on bits runs, leaves its arguments as they were, and ends with every counter at zero. -/
theorem frame_kernel : Cert.quiescent_Kernel := fun m ρ _ =>
  (θ_run Cert.Kernel.defs _ _).mono (fun _ h => ⟨fun c => (h.1 c).2, h.2⟩) (Cert.Kernel.Own.run_all m ρ)

/-- So does the kernel over the extended reals. -/
theorem frame_ideal : Cert.quiescent_KernelIdeal := fun m ρ _ =>
  (θ_run Cert.KernelIdeal.defs _ _).mono (fun _ h => ⟨fun c => (h.1 c).2, h.2⟩) (Cert.KernelIdeal.Own.run_all m ρ)

/-- So does the reference, which has no counters. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run m ρ)

/-- Over the extended reals every device's result is the reference's: the three layers of the whole arrays. -/
theorem value : Cert.algebraic_KernelIdeal_ReferenceIdeal := by
  intro m ρ m' ρ' _ hagree
  let a (b : Ref Cert.ReferenceIdeal.sig .tc) := m' (((0 : Dev Cert.ReferenceIdeal.nD).tc : Thread _ Cert.ReferenceIdeal.τ).loc b)
  let W : ℕ → FVec Ideal Cert.ReferenceIdeal.S256x4096 .f32
    | 0 => a Cert.ReferenceIdeal.main_arg1
    | 1 => a Cert.ReferenceIdeal.main_arg3
    | _ => a Cert.ReferenceIdeal.main_arg5
  let U : ℕ → FVec Ideal Cert.ReferenceIdeal.S4096x256 .f32
    | 0 => a Cert.ReferenceIdeal.main_arg2
    | 1 => a Cert.ReferenceIdeal.main_arg4
    | _ => a Cert.ReferenceIdeal.main_arg6
  have hp : Cert.KernelIdeal.Own.Sharded (Cert.KernelIdeal.Own.inp m) (a Cert.ReferenceIdeal.main_arg0) W U :=
    ⟨fun c => (hagree c).1,
     fun l c => match l with
      | 0 => (hagree c).2.1
      | 1 => (hagree c).2.2.2.1
      | _ + 2 => (hagree c).2.2.2.2.2.1,
     fun l c => match l with
      | 0 => (hagree c).2.2.1
      | 1 => (hagree c).2.2.2.2.1
      | _ + 2 => (hagree c).2.2.2.2.2.2⟩
  refine ⟨Cert.KernelIdeal.Own.deep (a Cert.ReferenceIdeal.main_arg0) W U 3, ?_, ?_⟩
  · exact (θ_run Cert.KernelIdeal.defs _ _).mono
      (fun _ h c => ⟨(h.1 c).1.trans (Cert.KernelIdeal.Own.outV_eq hp c), (h.1 c).2⟩) (Cert.KernelIdeal.Own.run_all m ρ)
  · exact (θ_run Cert.ReferenceIdeal.defs _ _).mono (fun _ h => ⟨(h 0).1, (h 0).2⟩) (Cert.ReferenceIdeal.Value.run m' ρ')

/-- Everything claimed. -/
theorem claim : Cert.Claim :=
  ⟨Cert.Kernel.Gen.facts, Cert.KernelIdeal.Gen.facts, Cert.ReferenceIdeal.Gen.facts,
    frame_kernel, frame_ideal, frame_reference, trivial, value⟩

end Cert.Proof

end
